-- ==== Defs.lean ====
def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelMod (m : (ℓ : Loc Cert.KernelMod.nD Cert.KernelMod.τ Cert.KernelMod.sig) → Buf (Elt Bits) ℓ) : Prop :=
  True

def Pre_KernelModIdeal (m : (ℓ : Loc Cert.KernelModIdeal.nD Cert.KernelModIdeal.τ Cert.KernelModIdeal.sig) → Buf (Elt Ideal) ℓ) : Prop :=
  True

def Pre_ReferenceModIdeal (m : (ℓ : Loc Cert.ReferenceModIdeal.nD Cert.ReferenceModIdeal.τ Cert.ReferenceModIdeal.sig) → Buf (Elt Ideal) ℓ) : Prop :=
  True

def Pre_KernelRelayout (m : (ℓ : Loc Cert.KernelRelayout.nD Cert.KernelRelayout.τ Cert.KernelRelayout.sig) → Buf (Elt Bits) ℓ) : Prop :=
  True

def Pre_KernelRelayoutIdeal (m : (ℓ : Loc Cert.KernelRelayoutIdeal.nD Cert.KernelRelayoutIdeal.τ Cert.KernelRelayoutIdeal.sig) → Buf (Elt Ideal) ℓ) : Prop :=
  True

def Pre_ReferenceRelayoutIdeal (m : (ℓ : Loc Cert.ReferenceRelayoutIdeal.nD Cert.ReferenceRelayoutIdeal.τ Cert.ReferenceRelayoutIdeal.sig) → Buf (Elt Ideal) ℓ) : Prop :=
  True

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2)
      ∧ r.2.mem ((c.tc : Thread Cert.KernelIn.nD Cert.KernelIn.τ).loc Cert.KernelIn.main_arg3) = m ((c.tc : Thread Cert.KernelIn.nD Cert.KernelIn.τ).loc Cert.KernelIn.main_arg3)
      ∧ r.2.mem ((c.tc : Thread Cert.KernelIn.nD Cert.KernelIn.τ).loc Cert.KernelIn.main_arg4) = m ((c.tc : Thread Cert.KernelIn.nD Cert.KernelIn.τ).loc Cert.KernelIn.main_arg4)
      ∧ r.2.mem ((c.tc : Thread Cert.KernelIn.nD Cert.KernelIn.τ).loc Cert.KernelIn.main_arg5) = m ((c.tc : Thread Cert.KernelIn.nD Cert.KernelIn.τ).loc Cert.KernelIn.main_arg5)
      ∧ r.2.mem ((c.tc : Thread Cert.KernelIn.nD Cert.KernelIn.τ).loc Cert.KernelIn.main_arg6) = m ((c.tc : Thread Cert.KernelIn.nD Cert.KernelIn.τ).loc Cert.KernelIn.main_arg6)
      ∧ r.2.mem ((c.tc : Thread Cert.KernelIn.nD Cert.KernelIn.τ).loc Cert.KernelIn.main_arg7) = m ((c.tc : Thread Cert.KernelIn.nD Cert.KernelIn.τ).loc Cert.KernelIn.main_arg7)
      ∧ r.2.mem ((c.tc : Thread Cert.KernelIn.nD Cert.KernelIn.τ).loc Cert.KernelIn.main_arg8) = m ((c.tc : Thread Cert.KernelIn.nD Cert.KernelIn.τ).loc Cert.KernelIn.main_arg8))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
      ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
      ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4)
      ∧ r.2.mem ((c.tc : Thread Cert.KernelInIdeal.nD Cert.KernelInIdeal.τ).loc Cert.KernelInIdeal.main_arg5) = m ((c.tc : Thread Cert.KernelInIdeal.nD Cert.KernelInIdeal.τ).loc Cert.KernelInIdeal.main_arg5)
      ∧ r.2.mem ((c.tc : Thread Cert.KernelInIdeal.nD Cert.KernelInIdeal.τ).loc Cert.KernelInIdeal.main_arg6) = m ((c.tc : Thread Cert.KernelInIdeal.nD Cert.KernelInIdeal.τ).loc Cert.KernelInIdeal.main_arg6)
      ∧ r.2.mem ((c.tc : Thread Cert.KernelInIdeal.nD Cert.KernelInIdeal.τ).loc Cert.KernelInIdeal.main_arg7) = m ((c.tc : Thread Cert.KernelInIdeal.nD Cert.KernelInIdeal.τ).loc Cert.KernelInIdeal.main_arg7)
      ∧ r.2.mem ((c.tc : Thread Cert.KernelInIdeal.nD Cert.KernelInIdeal.τ).loc Cert.KernelInIdeal.main_arg8) = m ((c.tc : Thread Cert.KernelInIdeal.nD Cert.KernelInIdeal.τ).loc Cert.KernelInIdeal.main_arg8))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2)
      ∧ r.2.mem ((c.tc : Thread Cert.ReferenceInIdeal.nD Cert.ReferenceInIdeal.τ).loc Cert.ReferenceInIdeal.main_arg3) = m ((c.tc : Thread Cert.ReferenceInIdeal.nD Cert.ReferenceInIdeal.τ).loc Cert.ReferenceInIdeal.main_arg3)
      ∧ r.2.mem ((c.tc : Thread Cert.ReferenceInIdeal.nD Cert.ReferenceInIdeal.τ).loc Cert.ReferenceInIdeal.main_arg4) = m ((c.tc : Thread Cert.ReferenceInIdeal.nD Cert.ReferenceInIdeal.τ).loc Cert.ReferenceInIdeal.main_arg4)
      ∧ r.2.mem ((c.tc : Thread Cert.ReferenceInIdeal.nD Cert.ReferenceInIdeal.τ).loc Cert.ReferenceInIdeal.main_arg5) = m ((c.tc : Thread Cert.ReferenceInIdeal.nD Cert.ReferenceInIdeal.τ).loc Cert.ReferenceInIdeal.main_arg5)
      ∧ r.2.mem ((c.tc : Thread Cert.ReferenceInIdeal.nD Cert.ReferenceInIdeal.τ).loc Cert.ReferenceInIdeal.main_arg6) = m ((c.tc : Thread Cert.ReferenceInIdeal.nD Cert.ReferenceInIdeal.τ).loc Cert.ReferenceInIdeal.main_arg6)
      ∧ r.2.mem ((c.tc : Thread Cert.ReferenceInIdeal.nD Cert.ReferenceInIdeal.τ).loc Cert.ReferenceInIdeal.main_arg7) = m ((c.tc : Thread Cert.ReferenceInIdeal.nD Cert.ReferenceInIdeal.τ).loc Cert.ReferenceInIdeal.main_arg7)
      ∧ r.2.mem ((c.tc : Thread Cert.ReferenceInIdeal.nD Cert.ReferenceInIdeal.τ).loc Cert.ReferenceInIdeal.main_arg8) = m ((c.tc : Thread Cert.ReferenceInIdeal.nD Cert.ReferenceInIdeal.τ).loc Cert.ReferenceInIdeal.main_arg8))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3)
      ∧ r.2.mem ((c.tc : Thread Cert.KernelOut.nD Cert.KernelOut.τ).loc Cert.KernelOut.main_arg4) = m ((c.tc : Thread Cert.KernelOut.nD Cert.KernelOut.τ).loc Cert.KernelOut.main_arg4))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
      ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3)
      ∧ r.2.mem ((c.tc : Thread Cert.ReferenceOutIdeal.nD Cert.ReferenceOutIdeal.τ).loc Cert.ReferenceOutIdeal.main_arg4) = m ((c.tc : Thread Cert.ReferenceOutIdeal.nD Cert.ReferenceOutIdeal.τ).loc Cert.ReferenceOutIdeal.main_arg4))
      ∧ r.2.sem = fun _ => 0)

def quiescent_KernelMod [hKernelMod : Cert.KernelMod.Facts] : Prop :=
  ∀ (m : (ℓ : Loc Cert.KernelMod.nD Cert.KernelMod.τ Cert.KernelMod.sig) → Buf (Elt Bits) ℓ) (g : Dev Cert.KernelMod.nD → PrngReg), Pre_KernelMod m →
    θ_run (Cert.KernelMod.defs (F := Bits)) (onTc (τ := Cert.KernelMod.τ) (Cert.KernelMod.main (F := Bits))) ⟨m, fun _ => 0, g⟩ (fun r => (∀ c : Dev Cert.KernelMod.nD,
      r.2.mem ((c.tc : Thread Cert.KernelMod.nD Cert.KernelMod.τ).loc Cert.KernelMod.main_arg0) = m ((c.tc : Thread Cert.KernelMod.nD Cert.KernelMod.τ).loc Cert.KernelMod.main_arg0)
      ∧ r.2.mem ((c.tc : Thread Cert.KernelMod.nD Cert.KernelMod.τ).loc Cert.KernelMod.main_arg1) = m ((c.tc : Thread Cert.KernelMod.nD Cert.KernelMod.τ).loc Cert.KernelMod.main_arg1)
      ∧ r.2.mem ((c.tc : Thread Cert.KernelMod.nD Cert.KernelMod.τ).loc Cert.KernelMod.main_arg2) = m ((c.tc : Thread Cert.KernelMod.nD Cert.KernelMod.τ).loc Cert.KernelMod.main_arg2))
      ∧ r.2.sem = fun _ => 0)

def quiescent_KernelModIdeal [hKernelModIdeal : Cert.KernelModIdeal.Facts] : Prop :=
  ∀ (m : (ℓ : Loc Cert.KernelModIdeal.nD Cert.KernelModIdeal.τ Cert.KernelModIdeal.sig) → Buf (Elt Ideal) ℓ) (g : Dev Cert.KernelModIdeal.nD → PrngReg), Pre_KernelModIdeal m →
    θ_run (Cert.KernelModIdeal.defs (F := Ideal)) (onTc (τ := Cert.KernelModIdeal.τ) (Cert.KernelModIdeal.main (F := Ideal))) ⟨m, fun _ => 0, g⟩ (fun r => (∀ c : Dev Cert.KernelModIdeal.nD,
      r.2.mem ((c.tc : Thread Cert.KernelModIdeal.nD Cert.KernelModIdeal.τ).loc Cert.KernelModIdeal.main_arg0) = m ((c.tc : Thread Cert.KernelModIdeal.nD Cert.KernelModIdeal.τ).loc Cert.KernelModIdeal.main_arg0)
      ∧ r.2.mem ((c.tc : Thread Cert.KernelModIdeal.nD Cert.KernelModIdeal.τ).loc Cert.KernelModIdeal.main_arg1) = m ((c.tc : Thread Cert.KernelModIdeal.nD Cert.KernelModIdeal.τ).loc Cert.KernelModIdeal.main_arg1)
      ∧ r.2.mem ((c.tc : Thread Cert.KernelModIdeal.nD Cert.KernelModIdeal.τ).loc Cert.KernelModIdeal.main_arg2) = m ((c.tc : Thread Cert.KernelModIdeal.nD Cert.KernelModIdeal.τ).loc Cert.KernelModIdeal.main_arg2))
      ∧ r.2.sem = fun _ => 0)

def quiescent_ReferenceModIdeal [hReferenceModIdeal : Cert.ReferenceModIdeal.Facts] : Prop :=
  ∀ (m : (ℓ : Loc Cert.ReferenceModIdeal.nD Cert.ReferenceModIdeal.τ Cert.ReferenceModIdeal.sig) → Buf (Elt Ideal) ℓ) (g : Dev Cert.ReferenceModIdeal.nD → PrngReg), Pre_ReferenceModIdeal m →
    θ_run (Cert.ReferenceModIdeal.defs (F := Ideal)) (onTc (τ := Cert.ReferenceModIdeal.τ) (Cert.ReferenceModIdeal.main (F := Ideal))) ⟨m, fun _ => 0, g⟩ (fun r => (∀ c : Dev Cert.ReferenceModIdeal.nD,
      r.2.mem ((c.tc : Thread Cert.ReferenceModIdeal.nD Cert.ReferenceModIdeal.τ).loc Cert.ReferenceModIdeal.main_arg0) = m ((c.tc : Thread Cert.ReferenceModIdeal.nD Cert.ReferenceModIdeal.τ).loc Cert.ReferenceModIdeal.main_arg0)
      ∧ r.2.mem ((c.tc : Thread Cert.ReferenceModIdeal.nD Cert.ReferenceModIdeal.τ).loc Cert.ReferenceModIdeal.main_arg1) = m ((c.tc : Thread Cert.ReferenceModIdeal.nD Cert.ReferenceModIdeal.τ).loc Cert.ReferenceModIdeal.main_arg1)
      ∧ r.2.mem ((c.tc : Thread Cert.ReferenceModIdeal.nD Cert.ReferenceModIdeal.τ).loc Cert.ReferenceModIdeal.main_arg2) = m ((c.tc : Thread Cert.ReferenceModIdeal.nD Cert.ReferenceModIdeal.τ).loc Cert.ReferenceModIdeal.main_arg2))
      ∧ r.2.sem = fun _ => 0)

def quiescent_KernelRelayout [hKernelRelayout : Cert.KernelRelayout.Facts] : Prop :=
  ∀ (m : (ℓ : Loc Cert.KernelRelayout.nD Cert.KernelRelayout.τ Cert.KernelRelayout.sig) → Buf (Elt Bits) ℓ) (g : Dev Cert.KernelRelayout.nD → PrngReg), Pre_KernelRelayout m →
    θ_run (Cert.KernelRelayout.defs (F := Bits)) (onTc (τ := Cert.KernelRelayout.τ) (Cert.KernelRelayout.main (F := Bits))) ⟨m, fun _ => 0, g⟩ (fun r => (∀ c : Dev Cert.KernelRelayout.nD,
      r.2.mem ((c.tc : Thread Cert.KernelRelayout.nD Cert.KernelRelayout.τ).loc Cert.KernelRelayout.main_arg0) = m ((c.tc : Thread Cert.KernelRelayout.nD Cert.KernelRelayout.τ).loc Cert.KernelRelayout.main_arg0))
      ∧ r.2.sem = fun _ => 0)

def quiescent_KernelRelayoutIdeal [hKernelRelayoutIdeal : Cert.KernelRelayoutIdeal.Facts] : Prop :=
  ∀ (m : (ℓ : Loc Cert.KernelRelayoutIdeal.nD Cert.KernelRelayoutIdeal.τ Cert.KernelRelayoutIdeal.sig) → Buf (Elt Ideal) ℓ) (g : Dev Cert.KernelRelayoutIdeal.nD → PrngReg), Pre_KernelRelayoutIdeal m →
    θ_run (Cert.KernelRelayoutIdeal.defs (F := Ideal)) (onTc (τ := Cert.KernelRelayoutIdeal.τ) (Cert.KernelRelayoutIdeal.main (F := Ideal))) ⟨m, fun _ => 0, g⟩ (fun r => (∀ c : Dev Cert.KernelRelayoutIdeal.nD,
      r.2.mem ((c.tc : Thread Cert.KernelRelayoutIdeal.nD Cert.KernelRelayoutIdeal.τ).loc Cert.KernelRelayoutIdeal.main_arg0) = m ((c.tc : Thread Cert.KernelRelayoutIdeal.nD Cert.KernelRelayoutIdeal.τ).loc Cert.KernelRelayoutIdeal.main_arg0))
      ∧ r.2.sem = fun _ => 0)

def quiescent_ReferenceRelayoutIdeal [hReferenceRelayoutIdeal : Cert.ReferenceRelayoutIdeal.Facts] : Prop :=
  ∀ (m : (ℓ : Loc Cert.ReferenceRelayoutIdeal.nD Cert.ReferenceRelayoutIdeal.τ Cert.ReferenceRelayoutIdeal.sig) → Buf (Elt Ideal) ℓ) (g : Dev Cert.ReferenceRelayoutIdeal.nD → PrngReg), Pre_ReferenceRelayoutIdeal m →
    θ_run (Cert.ReferenceRelayoutIdeal.defs (F := Ideal)) (onTc (τ := Cert.ReferenceRelayoutIdeal.τ) (Cert.ReferenceRelayoutIdeal.main (F := Ideal))) ⟨m, fun _ => 0, g⟩ (fun r => (∀ c : Dev Cert.ReferenceRelayoutIdeal.nD,
      r.2.mem ((c.tc : Thread Cert.ReferenceRelayoutIdeal.nD Cert.ReferenceRelayoutIdeal.τ).loc Cert.ReferenceRelayoutIdeal.main_arg0) = m ((c.tc : Thread Cert.ReferenceRelayoutIdeal.nD Cert.ReferenceRelayoutIdeal.τ).loc Cert.ReferenceRelayoutIdeal.main_arg0))
      ∧ r.2.sem = fun _ => 0)

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)
      ∧ m' ((c.tc : Thread Cert.ReferenceInIdeal.nD Cert.ReferenceInIdeal.τ).loc Cert.ReferenceInIdeal.main_arg3) = m ((c.tc : Thread Cert.KernelInIdeal.nD Cert.KernelInIdeal.τ).loc Cert.KernelInIdeal.main_arg3)
      ∧ m' ((c.tc : Thread Cert.ReferenceInIdeal.nD Cert.ReferenceInIdeal.τ).loc Cert.ReferenceInIdeal.main_arg4) = m ((c.tc : Thread Cert.KernelInIdeal.nD Cert.KernelInIdeal.τ).loc Cert.KernelInIdeal.main_arg4)
      ∧ m' ((c.tc : Thread Cert.ReferenceInIdeal.nD Cert.ReferenceInIdeal.τ).loc Cert.ReferenceInIdeal.main_arg5) = m ((c.tc : Thread Cert.KernelInIdeal.nD Cert.KernelInIdeal.τ).loc Cert.KernelInIdeal.main_arg5)
      ∧ m' ((c.tc : Thread Cert.ReferenceInIdeal.nD Cert.ReferenceInIdeal.τ).loc Cert.ReferenceInIdeal.main_arg6) = m ((c.tc : Thread Cert.KernelInIdeal.nD Cert.KernelInIdeal.τ).loc Cert.KernelInIdeal.main_arg6)
      ∧ m' ((c.tc : Thread Cert.ReferenceInIdeal.nD Cert.ReferenceInIdeal.τ).loc Cert.ReferenceInIdeal.main_arg7) = m ((c.tc : Thread Cert.KernelInIdeal.nD Cert.KernelInIdeal.τ).loc Cert.KernelInIdeal.main_arg7)
      ∧ m' ((c.tc : Thread Cert.ReferenceInIdeal.nD Cert.ReferenceInIdeal.τ).loc Cert.ReferenceInIdeal.main_arg8) = m ((c.tc : Thread Cert.KernelInIdeal.nD Cert.KernelInIdeal.τ).loc Cert.KernelInIdeal.main_arg8)) →
    ∃ (v0 : (c : Dev Cert.KernelInIdeal.nD) → Buf (Elt Ideal) ((c.tc : Thread Cert.KernelInIdeal.nD Cert.KernelInIdeal.τ).loc Cert.KernelInIdeal.main_v31_0)) (v1 : (c : Dev Cert.KernelInIdeal.nD) → Buf (Elt Ideal) ((c.tc : Thread Cert.KernelInIdeal.nD Cert.KernelInIdeal.τ).loc Cert.KernelInIdeal.main_v31_1)) (v2 : (c : Dev Cert.KernelInIdeal.nD) → Buf (Elt Ideal) ((c.tc : Thread Cert.KernelInIdeal.nD Cert.KernelInIdeal.τ).loc Cert.KernelInIdeal.main_v31_2)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v31_0) = v0 c
          ∧ r.2.mem ((c.tc : Thread Cert.KernelInIdeal.nD Cert.KernelInIdeal.τ).loc Cert.KernelInIdeal.main_v31_1) = v1 c
          ∧ r.2.mem ((c.tc : Thread Cert.KernelInIdeal.nD Cert.KernelInIdeal.τ).loc Cert.KernelInIdeal.main_v31_2) = v2 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
          ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
          ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4)
          ∧ r.2.mem ((c.tc : Thread Cert.KernelInIdeal.nD Cert.KernelInIdeal.τ).loc Cert.KernelInIdeal.main_arg5) = m ((c.tc : Thread Cert.KernelInIdeal.nD Cert.KernelInIdeal.τ).loc Cert.KernelInIdeal.main_arg5)
          ∧ r.2.mem ((c.tc : Thread Cert.KernelInIdeal.nD Cert.KernelInIdeal.τ).loc Cert.KernelInIdeal.main_arg6) = m ((c.tc : Thread Cert.KernelInIdeal.nD Cert.KernelInIdeal.τ).loc Cert.KernelInIdeal.main_arg6)
          ∧ r.2.mem ((c.tc : Thread Cert.KernelInIdeal.nD Cert.KernelInIdeal.τ).loc Cert.KernelInIdeal.main_arg7) = m ((c.tc : Thread Cert.KernelInIdeal.nD Cert.KernelInIdeal.τ).loc Cert.KernelInIdeal.main_arg7)
          ∧ r.2.mem ((c.tc : Thread Cert.KernelInIdeal.nD Cert.KernelInIdeal.τ).loc Cert.KernelInIdeal.main_arg8) = m ((c.tc : Thread Cert.KernelInIdeal.nD Cert.KernelInIdeal.τ).loc Cert.KernelInIdeal.main_arg8))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v137) = v0 c
          ∧ r.2.mem ((c.tc : Thread Cert.ReferenceInIdeal.nD Cert.ReferenceInIdeal.τ).loc Cert.ReferenceInIdeal.main_v138) = v1 c
          ∧ r.2.mem ((c.tc : Thread Cert.ReferenceInIdeal.nD Cert.ReferenceInIdeal.τ).loc Cert.ReferenceInIdeal.main_v136) = v2 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2)
          ∧ r.2.mem ((c.tc : Thread Cert.ReferenceInIdeal.nD Cert.ReferenceInIdeal.τ).loc Cert.ReferenceInIdeal.main_arg3) = m' ((c.tc : Thread Cert.ReferenceInIdeal.nD Cert.ReferenceInIdeal.τ).loc Cert.ReferenceInIdeal.main_arg3)
          ∧ r.2.mem ((c.tc : Thread Cert.ReferenceInIdeal.nD Cert.ReferenceInIdeal.τ).loc Cert.ReferenceInIdeal.main_arg4) = m' ((c.tc : Thread Cert.ReferenceInIdeal.nD Cert.ReferenceInIdeal.τ).loc Cert.ReferenceInIdeal.main_arg4)
          ∧ r.2.mem ((c.tc : Thread Cert.ReferenceInIdeal.nD Cert.ReferenceInIdeal.τ).loc Cert.ReferenceInIdeal.main_arg5) = m' ((c.tc : Thread Cert.ReferenceInIdeal.nD Cert.ReferenceInIdeal.τ).loc Cert.ReferenceInIdeal.main_arg5)
          ∧ r.2.mem ((c.tc : Thread Cert.ReferenceInIdeal.nD Cert.ReferenceInIdeal.τ).loc Cert.ReferenceInIdeal.main_arg6) = m' ((c.tc : Thread Cert.ReferenceInIdeal.nD Cert.ReferenceInIdeal.τ).loc Cert.ReferenceInIdeal.main_arg6)
          ∧ r.2.mem ((c.tc : Thread Cert.ReferenceInIdeal.nD Cert.ReferenceInIdeal.τ).loc Cert.ReferenceInIdeal.main_arg7) = m' ((c.tc : Thread Cert.ReferenceInIdeal.nD Cert.ReferenceInIdeal.τ).loc Cert.ReferenceInIdeal.main_arg7)
          ∧ r.2.mem ((c.tc : Thread Cert.ReferenceInIdeal.nD Cert.ReferenceInIdeal.τ).loc Cert.ReferenceInIdeal.main_arg8) = m' ((c.tc : Thread Cert.ReferenceInIdeal.nD Cert.ReferenceInIdeal.τ).loc Cert.ReferenceInIdeal.main_arg8))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)
      ∧ m' ((c.tc : Thread Cert.ReferenceOutIdeal.nD Cert.ReferenceOutIdeal.τ).loc Cert.ReferenceOutIdeal.main_arg4) = m ((c.tc : Thread Cert.KernelOutIdeal.nD Cert.KernelOutIdeal.τ).loc Cert.KernelOutIdeal.main_arg4)) →
    ∃ (v0 : (c : Dev Cert.KernelOutIdeal.nD) → Buf (Elt Ideal) ((c.tc : Thread Cert.KernelOutIdeal.nD Cert.KernelOutIdeal.τ).loc Cert.KernelOutIdeal.main_v3)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v3) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
          ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v13) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3)
          ∧ r.2.mem ((c.tc : Thread Cert.ReferenceOutIdeal.nD Cert.ReferenceOutIdeal.τ).loc Cert.ReferenceOutIdeal.main_arg4) = m' ((c.tc : Thread Cert.ReferenceOutIdeal.nD Cert.ReferenceOutIdeal.τ).loc Cert.ReferenceOutIdeal.main_arg4))

def preserves_KernelMod_KernelModIdeal : Prop :=
  True

def algebraic_KernelModIdeal_ReferenceModIdeal [hKernelModIdeal : Cert.KernelModIdeal.Facts] [hReferenceModIdeal : Cert.ReferenceModIdeal.Facts] : Prop :=
  ∀ (m : (ℓ : Loc Cert.KernelModIdeal.nD Cert.KernelModIdeal.τ Cert.KernelModIdeal.sig) → Buf (Elt Ideal) ℓ) (g : Dev Cert.KernelModIdeal.nD → PrngReg)
    (m' : (ℓ : Loc Cert.ReferenceModIdeal.nD Cert.ReferenceModIdeal.τ Cert.ReferenceModIdeal.sig) → Buf (Elt Ideal) ℓ) (g' : Dev Cert.ReferenceModIdeal.nD → PrngReg), Pre_KernelModIdeal m →
    (∀ c : Dev Cert.KernelModIdeal.nD,
      m' ((c.tc : Thread Cert.ReferenceModIdeal.nD Cert.ReferenceModIdeal.τ).loc Cert.ReferenceModIdeal.main_arg0) = m ((c.tc : Thread Cert.KernelModIdeal.nD Cert.KernelModIdeal.τ).loc Cert.KernelModIdeal.main_arg0)
      ∧ m' ((c.tc : Thread Cert.ReferenceModIdeal.nD Cert.ReferenceModIdeal.τ).loc Cert.ReferenceModIdeal.main_arg1) = m ((c.tc : Thread Cert.KernelModIdeal.nD Cert.KernelModIdeal.τ).loc Cert.KernelModIdeal.main_arg1)
      ∧ m' ((c.tc : Thread Cert.ReferenceModIdeal.nD Cert.ReferenceModIdeal.τ).loc Cert.ReferenceModIdeal.main_arg2) = m ((c.tc : Thread Cert.KernelModIdeal.nD Cert.KernelModIdeal.τ).loc Cert.KernelModIdeal.main_arg2)) →
    ∃ (v0 : (c : Dev Cert.KernelModIdeal.nD) → Buf (Elt Ideal) ((c.tc : Thread Cert.KernelModIdeal.nD Cert.KernelModIdeal.τ).loc Cert.KernelModIdeal.main_v1)),
      θ_run (Cert.KernelModIdeal.defs (F := Ideal)) (onTc (τ := Cert.KernelModIdeal.τ) (Cert.KernelModIdeal.main (F := Ideal))) ⟨m, fun _ => 0, g⟩ (fun r => ∀ c : Dev Cert.KernelModIdeal.nD,
          r.2.mem ((c.tc : Thread Cert.KernelModIdeal.nD Cert.KernelModIdeal.τ).loc Cert.KernelModIdeal.main_v1) = v0 c
          ∧ r.2.mem ((c.tc : Thread Cert.KernelModIdeal.nD Cert.KernelModIdeal.τ).loc Cert.KernelModIdeal.main_arg0) = m ((c.tc : Thread Cert.KernelModIdeal.nD Cert.KernelModIdeal.τ).loc Cert.KernelModIdeal.main_arg0)
          ∧ r.2.mem ((c.tc : Thread Cert.KernelModIdeal.nD Cert.KernelModIdeal.τ).loc Cert.KernelModIdeal.main_arg1) = m ((c.tc : Thread Cert.KernelModIdeal.nD Cert.KernelModIdeal.τ).loc Cert.KernelModIdeal.main_arg1)
          ∧ r.2.mem ((c.tc : Thread Cert.KernelModIdeal.nD Cert.KernelModIdeal.τ).loc Cert.KernelModIdeal.main_arg2) = m ((c.tc : Thread Cert.KernelModIdeal.nD Cert.KernelModIdeal.τ).loc Cert.KernelModIdeal.main_arg2))
      ∧ θ_run (Cert.ReferenceModIdeal.defs (F := Ideal)) (onTc (τ := Cert.ReferenceModIdeal.τ) (Cert.ReferenceModIdeal.main (F := Ideal))) ⟨m', fun _ => 0, g'⟩ (fun r => ∀ c : Dev Cert.ReferenceModIdeal.nD,
          r.2.mem ((c.tc : Thread Cert.ReferenceModIdeal.nD Cert.ReferenceModIdeal.τ).loc Cert.ReferenceModIdeal.main_v4) = v0 c
          ∧ r.2.mem ((c.tc : Thread Cert.ReferenceModIdeal.nD Cert.ReferenceModIdeal.τ).loc Cert.ReferenceModIdeal.main_arg0) = m' ((c.tc : Thread Cert.ReferenceModIdeal.nD Cert.ReferenceModIdeal.τ).loc Cert.ReferenceModIdeal.main_arg0)
          ∧ r.2.mem ((c.tc : Thread Cert.ReferenceModIdeal.nD Cert.ReferenceModIdeal.τ).loc Cert.ReferenceModIdeal.main_arg1) = m' ((c.tc : Thread Cert.ReferenceModIdeal.nD Cert.ReferenceModIdeal.τ).loc Cert.ReferenceModIdeal.main_arg1)
          ∧ r.2.mem ((c.tc : Thread Cert.ReferenceModIdeal.nD Cert.ReferenceModIdeal.τ).loc Cert.ReferenceModIdeal.main_arg2) = m' ((c.tc : Thread Cert.ReferenceModIdeal.nD Cert.ReferenceModIdeal.τ).loc Cert.ReferenceModIdeal.main_arg2))

def preserves_KernelRelayout_KernelRelayoutIdeal : Prop :=
  True

def algebraic_KernelRelayoutIdeal_ReferenceRelayoutIdeal [hKernelRelayoutIdeal : Cert.KernelRelayoutIdeal.Facts] [hReferenceRelayoutIdeal : Cert.ReferenceRelayoutIdeal.Facts] : Prop :=
  ∀ (m : (ℓ : Loc Cert.KernelRelayoutIdeal.nD Cert.KernelRelayoutIdeal.τ Cert.KernelRelayoutIdeal.sig) → Buf (Elt Ideal) ℓ) (g : Dev Cert.KernelRelayoutIdeal.nD → PrngReg)
    (m' : (ℓ : Loc Cert.ReferenceRelayoutIdeal.nD Cert.ReferenceRelayoutIdeal.τ Cert.ReferenceRelayoutIdeal.sig) → Buf (Elt Ideal) ℓ) (g' : Dev Cert.ReferenceRelayoutIdeal.nD → PrngReg), Pre_KernelRelayoutIdeal m →
    (∀ c : Dev Cert.KernelRelayoutIdeal.nD,
      m' ((c.tc : Thread Cert.ReferenceRelayoutIdeal.nD Cert.ReferenceRelayoutIdeal.τ).loc Cert.ReferenceRelayoutIdeal.main_arg0) = m ((c.tc : Thread Cert.KernelRelayoutIdeal.nD Cert.KernelRelayoutIdeal.τ).loc Cert.KernelRelayoutIdeal.main_arg0)) →
    ∃ (v0 : (c : Dev Cert.KernelRelayoutIdeal.nD) → Buf (Elt Ideal) ((c.tc : Thread Cert.KernelRelayoutIdeal.nD Cert.KernelRelayoutIdeal.τ).loc Cert.KernelRelayoutIdeal.main_v1_0)) (v1 : (c : Dev Cert.KernelRelayoutIdeal.nD) → Buf (Elt Ideal) ((c.tc : Thread Cert.KernelRelayoutIdeal.nD Cert.KernelRelayoutIdeal.τ).loc Cert.KernelRelayoutIdeal.main_v1_1)),
      θ_run (Cert.KernelRelayoutIdeal.defs (F := Ideal)) (onTc (τ := Cert.KernelRelayoutIdeal.τ) (Cert.KernelRelayoutIdeal.main (F := Ideal))) ⟨m, fun _ => 0, g⟩ (fun r => ∀ c : Dev Cert.KernelRelayoutIdeal.nD,
          r.2.mem ((c.tc : Thread Cert.KernelRelayoutIdeal.nD Cert.KernelRelayoutIdeal.τ).loc Cert.KernelRelayoutIdeal.main_v1_0) = v0 c
          ∧ r.2.mem ((c.tc : Thread Cert.KernelRelayoutIdeal.nD Cert.KernelRelayoutIdeal.τ).loc Cert.KernelRelayoutIdeal.main_v1_1) = v1 c
          ∧ r.2.mem ((c.tc : Thread Cert.KernelRelayoutIdeal.nD Cert.KernelRelayoutIdeal.τ).loc Cert.KernelRelayoutIdeal.main_arg0) = m ((c.tc : Thread Cert.KernelRelayoutIdeal.nD Cert.KernelRelayoutIdeal.τ).loc Cert.KernelRelayoutIdeal.main_arg0))
      ∧ θ_run (Cert.ReferenceRelayoutIdeal.defs (F := Ideal)) (onTc (τ := Cert.ReferenceRelayoutIdeal.τ) (Cert.ReferenceRelayoutIdeal.main (F := Ideal))) ⟨m', fun _ => 0, g'⟩ (fun r => ∀ c : Dev Cert.ReferenceRelayoutIdeal.nD,
          r.2.mem ((c.tc : Thread Cert.ReferenceRelayoutIdeal.nD Cert.ReferenceRelayoutIdeal.τ).loc Cert.ReferenceRelayoutIdeal.main_v4) = v0 c
          ∧ r.2.mem ((c.tc : Thread Cert.ReferenceRelayoutIdeal.nD Cert.ReferenceRelayoutIdeal.τ).loc Cert.ReferenceRelayoutIdeal.main_v9) = v1 c
          ∧ r.2.mem ((c.tc : Thread Cert.ReferenceRelayoutIdeal.nD Cert.ReferenceRelayoutIdeal.τ).loc Cert.ReferenceRelayoutIdeal.main_arg0) = m' ((c.tc : Thread Cert.ReferenceRelayoutIdeal.nD Cert.ReferenceRelayoutIdeal.τ).loc Cert.ReferenceRelayoutIdeal.main_arg0))

def Claim : Prop :=
  ∃ (hKernelIn : Cert.KernelIn.Facts) (hKernelInIdeal : Cert.KernelInIdeal.Facts) (hReferenceInIdeal : Cert.ReferenceInIdeal.Facts) (hKernelOut : Cert.KernelOut.Facts) (hKernelOutIdeal : Cert.KernelOutIdeal.Facts) (hReferenceOutIdeal : Cert.ReferenceOutIdeal.Facts) (hKernelMod : Cert.KernelMod.Facts) (hKernelModIdeal : Cert.KernelModIdeal.Facts) (hReferenceModIdeal : Cert.ReferenceModIdeal.Facts) (hKernelRelayout : Cert.KernelRelayout.Facts) (hKernelRelayoutIdeal : Cert.KernelRelayoutIdeal.Facts) (hReferenceRelayoutIdeal : Cert.ReferenceRelayoutIdeal.Facts),
    quiescent_KernelIn (hKernelIn := hKernelIn)
    ∧ quiescent_KernelInIdeal (hKernelInIdeal := hKernelInIdeal)
    ∧ quiescent_ReferenceInIdeal (hReferenceInIdeal := hReferenceInIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelMod (hKernelMod := hKernelMod)
    ∧ quiescent_KernelModIdeal (hKernelModIdeal := hKernelModIdeal)
    ∧ quiescent_ReferenceModIdeal (hReferenceModIdeal := hReferenceModIdeal)
    ∧ quiescent_KernelRelayout (hKernelRelayout := hKernelRelayout)
    ∧ quiescent_KernelRelayoutIdeal (hKernelRelayoutIdeal := hKernelRelayoutIdeal)
    ∧ quiescent_ReferenceRelayoutIdeal (hReferenceRelayoutIdeal := hReferenceRelayoutIdeal)
    ∧ preserves_KernelIn_KernelInIdeal
    ∧ algebraic_KernelInIdeal_ReferenceInIdeal (hKernelInIdeal := hKernelInIdeal) (hReferenceInIdeal := hReferenceInIdeal)
    ∧ preserves_KernelOut_KernelOutIdeal
    ∧ algebraic_KernelOutIdeal_ReferenceOutIdeal (hKernelOutIdeal := hKernelOutIdeal) (hReferenceOutIdeal := hReferenceOutIdeal)
    ∧ preserves_KernelMod_KernelModIdeal
    ∧ algebraic_KernelModIdeal_ReferenceModIdeal (hKernelModIdeal := hKernelModIdeal) (hReferenceModIdeal := hReferenceModIdeal)
    ∧ preserves_KernelRelayout_KernelRelayoutIdeal
    ∧ algebraic_KernelRelayoutIdeal_ReferenceRelayoutIdeal (hKernelRelayoutIdeal := hKernelRelayoutIdeal) (hReferenceRelayoutIdeal := hReferenceRelayoutIdeal)
-- ==== KernelIn.lean ====
abbrev S8x2048x2048 : Shape := ⟨3, ![8, 2048, 2048]⟩
abbrev S8x6144 : Shape := ⟨2, ![8, 6144]⟩
abbrev S2048 : Shape := ⟨1, ![2048]⟩
abbrev S2048x9296 : Shape := ⟨2, ![2048, 9296]⟩
abbrev S128 : Shape := ⟨1, ![128]⟩
abbrev S64 : Shape := ⟨1, ![64]⟩
abbrev S16384x2048 : Shape := ⟨2, ![16384, 2048]⟩
abbrev S8x3x2048 : Shape := ⟨3, ![8, 3, 2048]⟩
abbrev S9296x2048 : Shape := ⟨2, ![9296, 2048]⟩
abbrev S5120x2048 : Shape := ⟨2, ![5120, 2048]⟩
abbrev S4096x2048 : Shape := ⟨2, ![4096, 2048]⟩
abbrev S9216x2048 : Shape := ⟨2, ![9216, 2048]⟩
abbrev S64x2048 : Shape := ⟨2, ![64, 2048]⟩
abbrev S16x2048 : Shape := ⟨2, ![16, 2048]⟩
abbrev S_ : Shape := ⟨0, ![]⟩
abbrev S112x2048 : Shape := ⟨2, ![112, 2048]⟩
abbrev S256x2048 : Shape := ⟨2, ![256, 2048]⟩
abbrev S1x128 : Shape := ⟨2, ![1, 128]⟩
abbrev S9x128 : Shape := ⟨2, ![9, 128]⟩
abbrev S9x1x128 : Shape := ⟨3, ![9, 1, 128]⟩
abbrev S1x2048 : Shape := ⟨2, ![1, 2048]⟩
abbrev S72x16384x128 : Shape := ⟨3, ![72, 16384, 128]⟩
abbrev S16384x128 : Shape := ⟨2, ![16384, 128]⟩
abbrev S1024x2048 : Shape := ⟨2, ![1024, 2048]⟩
abbrev S1x3x2048 : Shape := ⟨3, ![1, 3, 2048]⟩
abbrev S1x1x128 : Shape := ⟨3, ![1, 1, 128]⟩
abbrev S8x1024x128 : Shape := ⟨3, ![8, 1024, 128]⟩
abbrev S1024x128 : Shape := ⟨2, ![1024, 128]⟩
abbrev S1024 : Shape := ⟨1, ![1024]⟩
abbrev S1024x1 : Shape := ⟨2, ![1024, 1]⟩
abbrev S1x1x2048 : Shape := ⟨3, ![1, 1, 2048]⟩
abbrev S1024x256 : Shape := ⟨2, ![1024, 256]⟩
abbrev S1x1024x128 : Shape := ⟨3, ![1, 1024, 128]⟩

abbrev nBuf : Space → Nat
  | .hbm => 47
  | .vmem => 18
  | .smem => 0
  | _ => 0

abbrev bufTy : (tb : Table) → Fin (tcTables nBuf tb) → BufTy
  | .hbm, ⟨0, _⟩ => ⟨S8x2048x2048, .f32⟩
  | .hbm, ⟨1, _⟩ => ⟨S8x6144, .f32⟩
  | .hbm, ⟨2, _⟩ => ⟨S2048, .f32⟩
  | .hbm, ⟨3, _⟩ => ⟨S2048x9296, .f32⟩
  | .hbm, ⟨4, _⟩ => ⟨S128, .f32⟩
  | .hbm, ⟨5, _⟩ => ⟨S128, .f32⟩
  | .hbm, ⟨6, _⟩ => ⟨S64, .f32⟩
  | .hbm, ⟨7, _⟩ => ⟨S128, .f32⟩
  | .hbm, ⟨8, _⟩ => ⟨S128, .f32⟩
  | .hbm, ⟨9, _⟩ => ⟨S16384x2048, .f32⟩
  | .hbm, ⟨10, _⟩ => ⟨S8x3x2048, .f32⟩
  | .hbm, ⟨11, _⟩ => ⟨S9296x2048, .f32⟩
  | .hbm, ⟨12, _⟩ => ⟨S5120x2048, .f32⟩
  | .hbm, ⟨13, _⟩ => ⟨S4096x2048, .f32⟩
  | .hbm, ⟨14, _⟩ => ⟨S9216x2048, .f32⟩
  | .hbm, ⟨15, _⟩ => ⟨S9216x2048, .bf16⟩
  | .hbm, ⟨16, _⟩ => ⟨S64x2048, .f32⟩
  | .hbm, ⟨17, _⟩ => ⟨S16x2048, .f32⟩
  | .hbm, ⟨18, _⟩ => ⟨S_, .f32⟩
  | .hbm, ⟨19, _⟩ => ⟨S112x2048, .f32⟩
  | .hbm, ⟨20, _⟩ => ⟨S256x2048, .f32⟩
  | .hbm, ⟨21, _⟩ => ⟨S256x2048, .bf16⟩
  | .hbm, ⟨22, _⟩ => ⟨S_, .f32⟩
  | .hbm, ⟨23, _⟩ => ⟨S128, .f32⟩
  | .hbm, ⟨24, _⟩ => ⟨S_, .f32⟩
  | .hbm, ⟨25, _⟩ => ⟨S128, .f32⟩
  | .hbm, ⟨26, _⟩ => ⟨S128, .f32⟩
  | .hbm, ⟨27, _⟩ => ⟨S_, .f32⟩
  | .hbm, ⟨28, _⟩ => ⟨S128, .f32⟩
  | .hbm, ⟨29, _⟩ => ⟨S128, .f32⟩
  | .hbm, ⟨30, _⟩ => ⟨S1x128, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S1x128, .f32⟩
  | .hbm, ⟨35, _⟩ => ⟨S1x128, .f32⟩
  | .hbm, ⟨36, _⟩ => ⟨S1x128, .f32⟩
  | .hbm, ⟨37, _⟩ => ⟨S1x128, .f32⟩
  | .hbm, ⟨38, _⟩ => ⟨S1x128, .f32⟩
  | .hbm, ⟨39, _⟩ => ⟨S9x128, .f32⟩
  | .hbm, ⟨40, _⟩ => ⟨S9x1x128, .f32⟩
  | .hbm, ⟨41, _⟩ => ⟨S128, .f32⟩
  | .hbm, ⟨42, _⟩ => ⟨S1x128, .f32⟩
  | .hbm, ⟨43, _⟩ => ⟨S1x2048, .f32⟩
  | .hbm, ⟨44, _⟩ => ⟨S72x16384x128, .bf16⟩
  | .hbm, ⟨45, _⟩ => ⟨S16384x128, .bf16⟩
  | .hbm, ⟨46, _⟩ => ⟨S16384x128, .f32⟩
  | .local _ .vmem, ⟨0, _⟩ => ⟨S1024x2048, .f32⟩
  | .local _ .vmem, ⟨1, _⟩ => ⟨S1024x2048, .f32⟩
  | .local _ .vmem, ⟨2, _⟩ => ⟨S1x3x2048, .f32⟩
  | .local _ .vmem, ⟨3, _⟩ => ⟨S1x3x2048, .f32⟩
  | .local _ .vmem, ⟨4, _⟩ => ⟨S1x2048, .f32⟩
  | .local _ .vmem, ⟨5, _⟩ => ⟨S1024x2048, .bf16⟩
  | .local _ .vmem, ⟨6, _⟩ => ⟨S1024x2048, .bf16⟩
  | .local _ .vmem, ⟨7, _⟩ => ⟨S256x2048, .bf16⟩
  | .local _ .vmem, ⟨8, _⟩ => ⟨S1x1x128, .f32⟩
  | .local _ .vmem, ⟨9, _⟩ => ⟨S1x1x128, .f32⟩
  | .local _ .vmem, ⟨10, _⟩ => ⟨S1x128, .f32⟩
  | .local _ .vmem, ⟨11, _⟩ => ⟨S8x1024x128, .bf16⟩
  | .local _ .vmem, ⟨12, _⟩ => ⟨S8x1024x128, .bf16⟩
  | .local _ .vmem, ⟨13, _⟩ => ⟨S1024x128, .bf16⟩
  | .local _ .vmem, ⟨14, _⟩ => ⟨S1024x128, .bf16⟩
  | .local _ .vmem, ⟨15, _⟩ => ⟨S1024x128, .f32⟩
  | .local _ .vmem, ⟨16, _⟩ => ⟨S1024x128, .f32⟩
  | .local _ .vmem, ⟨17, _⟩ => ⟨S1024x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31_0 : Ref sig .tc := ⟨.hbm, 44, rfl⟩
abbrev main_v31_1 : Ref sig .tc := ⟨.hbm, 45, rfl⟩
abbrev main_v31_2 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![16, 9], ![false, false]⟩

def k0_cond2 (i : grid0.Coords) : BitVec 1 :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let arg1 : BitVec 32 := BitVec.ofNat 32 (i 1).val
  let c8_i32 : BitVec 32 := 8#32
  let v14 : BitVec 32 := Scalar.subi c8_i32 arg1
  let v15 : BitVec 32 := Scalar.select v13 arg1 v14
  let c0_i32_6 : BitVec 32 := 0#32
  let v16 : BitVec 1 := Scalar.cmpi .eq v15 c0_i32_6
  let c1_i32_7 : BitVec 32 := 1#32
  let v17 : BitVec 1 := Scalar.cmpi .eq v15 c1_i32_7
  let v18 : BitVec 1 := Scalar.ori v16 v17
  let c5_i32 : BitVec 32 := 5#32
  let v19 : BitVec 1 := Scalar.cmpi .eq v15 c5_i32
  let v20 : BitVec 1 := Scalar.ori v18 v19
  let c6_i32 : BitVec 32 := 6#32
  let v21 : BitVec 1 := Scalar.cmpi .eq v15 c6_i32
  let v22 : BitVec 1 := Scalar.ori v20 v21
  let v23 : BitVec 32 := Scalar.extui v22
  let c0_i32_8 : BitVec 32 := 0#32
  let v24 : BitVec 1 := Scalar.cmpi .ne v23 c0_i32_8
  v24

def k0_cond3 (i : grid0.Coords) : BitVec 1 :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let arg1 : BitVec 32 := BitVec.ofNat 32 (i 1).val
  let c8_i32 : BitVec 32 := 8#32
  let v14 : BitVec 32 := Scalar.subi c8_i32 arg1
  let v15 : BitVec 32 := Scalar.select v13 arg1 v14
  let c0_i32_6 : BitVec 32 := 0#32
  let v16 : BitVec 1 := Scalar.cmpi .eq v15 c0_i32_6
  let c1_i32_7 : BitVec 32 := 1#32
  let v17 : BitVec 1 := Scalar.cmpi .eq v15 c1_i32_7
  let v18 : BitVec 1 := Scalar.ori v16 v17
  let c5_i32 : BitVec 32 := 5#32
  let v19 : BitVec 1 := Scalar.cmpi .eq v15 c5_i32
  let v20 : BitVec 1 := Scalar.ori v18 v19
  let c6_i32 : BitVec 32 := 6#32
  let v21 : BitVec 1 := Scalar.cmpi .eq v15 c6_i32
  let v22 : BitVec 1 := Scalar.ori v20 v21
  let v_true : BitVec 1 := 1#1
  let v25 : BitVec 1 := Scalar.xori v22 v_true
  let v26 : BitVec 32 := Scalar.extui v25
  let c0_i32_9 : BitVec 32 := 0#32
  let v27 : BitVec 1 := Scalar.cmpi .ne v26 c0_i32_9
  v27

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c8_i32 : BitVec 32 := 8#32
  let v11 : BitVec 32 := Scalar.subi c8_i32 arg1
  let v12 : BitVec 32 := Scalar.select v10 arg1 v11
  let c0_i32_4 : BitVec 32 := 0#32
  let c0_i32_5 : BitVec 32 := 0#32
  ![v12.toNat, c0_i32_4.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c8_i32 : BitVec 32 := 8#32
  let v11 : BitVec 32 := Scalar.subi c8_i32 arg1
  let v12 : BitVec 32 := Scalar.select v10 arg1 v11
  let c0_i32_4 : BitVec 32 := 0#32
  let c0_i32_5 : BitVec 32 := 0#32
  let c0_i32_6 : BitVec 32 := 0#32
  ![v12.toNat, c0_i32_4.toNat, c0_i32_5.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c8_i32 : BitVec 32 := 8#32
  let v11 : BitVec 32 := Scalar.subi c8_i32 arg1
  let v12 : BitVec 32 := Scalar.select v10 arg1 v11
  let c0_i32_4 : BitVec 32 := 0#32
  let c0_i32_5 : BitVec 32 := 0#32
  ![v12.toNat, arg0.toNat, c0_i32_4.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S8x1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceInIdeal.lean ====
abbrev S8x2048x2048 : Shape := ⟨3, ![8, 2048, 2048]⟩
abbrev S8x6144 : Shape := ⟨2, ![8, 6144]⟩
abbrev S2048 : Shape := ⟨1, ![2048]⟩
abbrev S2048x9296 : Shape := ⟨2, ![2048, 9296]⟩
abbrev S128 : Shape := ⟨1, ![128]⟩
abbrev S64 : Shape := ⟨1, ![64]⟩
abbrev S8x2048 : Shape := ⟨2, ![8, 2048]⟩
abbrev S_ : Shape := ⟨0, ![]⟩
abbrev S8x2048x1 : Shape := ⟨3, ![8, 2048, 1]⟩
abbrev S1x1x2048 : Shape := ⟨3, ![1, 1, 2048]⟩
abbrev S8x1x2048 : Shape := ⟨3, ![8, 1, 2048]⟩
abbrev S8x2048x9296 : Shape := ⟨3, ![8, 2048, 9296]⟩
abbrev S8x2048x1024 : Shape := ⟨3, ![8, 2048, 1024]⟩
abbrev S8x2048x64 : Shape := ⟨3, ![8, 2048, 64]⟩
abbrev S8x2048x16 : Shape := ⟨3, ![8, 2048, 16]⟩
abbrev S8x2048x8x128 : Shape := ⟨4, ![8, 2048, 8, 128]⟩
abbrev S8x2048x8 : Shape := ⟨3, ![8, 2048, 8]⟩
abbrev S8x2048x8x1 : Shape := ⟨4, ![8, 2048, 8, 1]⟩
abbrev S1x1x1x128 : Shape := ⟨4, ![1, 1, 1, 128]⟩
abbrev S1x1x64 : Shape := ⟨3, ![1, 1, 64]⟩
abbrev S16384x8x128 : Shape := ⟨3, ![16384, 8, 128]⟩
abbrev S8x16384x128 : Shape := ⟨3, ![8, 16384, 128]⟩
abbrev S72x16384x128 : Shape := ⟨3, ![72, 16384, 128]⟩
abbrev S8x2048x128 : Shape := ⟨3, ![8, 2048, 128]⟩
abbrev S16384x128 : Shape := ⟨2, ![16384, 128]⟩
abbrev S16384x16 : Shape := ⟨2, ![16384, 16]⟩

abbrev nBuf : Space → Nat
  | .hbm => 171
  | .vmem => 0
  | .smem => 0
  | _ => 0

abbrev hbmTy0_0 (i : Nat) : BufTy := match i % 128 with
  | 0 => ⟨S8x2048x2048, .f32⟩
  | 1 => ⟨S8x6144, .f32⟩
  | 2 => ⟨S2048, .f32⟩
  | 3 => ⟨S2048x9296, .f32⟩
  | 4 => ⟨S128, .f32⟩
  | 5 => ⟨S128, .f32⟩
  | 6 => ⟨S64, .f32⟩
  | 7 => ⟨S128, .f32⟩
  | 8 => ⟨S128, .f32⟩
  | 9 => ⟨S8x2048, .f32⟩
  | 10 => ⟨S8x2048, .f32⟩
  | 11 => ⟨S8x2048, .f32⟩
  | 12 => ⟨S8x2048x2048, .f32⟩
  | 13 => ⟨S_, .f32⟩
  | 14 => ⟨S8x2048, .f32⟩
  | 15 => ⟨S8x2048x1, .f32⟩
  | 16 => ⟨S_, .f32⟩
  | 17 => ⟨S8x2048x1, .f32⟩
  | 18 => ⟨S8x2048x1, .f32⟩
  | 19 => ⟨S_, .f32⟩
  | 20 => ⟨S8x2048x1, .f32⟩
  | 21 => ⟨S8x2048x1, .f32⟩
  | 22 => ⟨S8x2048x1, .f32⟩
  | 23 => ⟨S8x2048x2048, .f32⟩
  | 24 => ⟨S8x2048x2048, .f32⟩
  | 25 => ⟨S1x1x2048, .f32⟩
  | 26 => ⟨S8x2048x2048, .f32⟩
  | 27 => ⟨S8x2048x2048, .f32⟩
  | 28 => ⟨S8x1x2048, .f32⟩
  | 29 => ⟨S_, .f32⟩
  | 30 => ⟨S8x1x2048, .f32⟩
  | 31 => ⟨S8x1x2048, .f32⟩
  | 32 => ⟨S8x2048x2048, .f32⟩
  | 33 => ⟨S8x2048x2048, .f32⟩
  | 34 => ⟨S8x1x2048, .f32⟩
  | 35 => ⟨S8x2048x2048, .f32⟩
  | 36 => ⟨S8x2048x2048, .f32⟩
  | 37 => ⟨S8x2048x9296, .f32⟩
  | 38 => ⟨S8x2048x1024, .f32⟩
  | 39 => ⟨S8x2048x1024, .f32⟩
  | 40 => ⟨S8x2048x1024, .f32⟩
  | 41 => ⟨S8x2048x1024, .f32⟩
  | 42 => ⟨S8x2048x1024, .f32⟩
  | 43 => ⟨S8x2048x64, .f32⟩
  | 44 => ⟨S8x2048x16, .f32⟩
  | 45 => ⟨S8x2048x1024, .f32⟩
  | 46 => ⟨S8x2048x1024, .f32⟩
  | 47 => ⟨S8x2048x1024, .f32⟩
  | 48 => ⟨S8x2048x1024, .f32⟩
  | 49 => ⟨S8x2048x8x128, .f32⟩
  | 50 => ⟨S8x2048x8x128, .f32⟩
  | 51 => ⟨S_, .f32⟩
  | 52 => ⟨S8x2048x8, .f32⟩
  | 53 => ⟨S8x2048x8x1, .f32⟩
  | 54 => ⟨S_, .f32⟩
  | 55 => ⟨S8x2048x8x1, .f32⟩
  | 56 => ⟨S8x2048x8x1, .f32⟩
  | 57 => ⟨S_, .f32⟩
  | 58 => ⟨S8x2048x8x1, .f32⟩
  | 59 => ⟨S8x2048x8x1, .f32⟩
  | 60 => ⟨S8x2048x8x1, .f32⟩
  | 61 => ⟨S8x2048x8x128, .f32⟩
  | 62 => ⟨S8x2048x8x128, .f32⟩
  | 63 => ⟨S1x1x1x128, .f32⟩
  | 64 => ⟨S8x2048x8x128, .f32⟩
  | 65 => ⟨S8x2048x8x128, .f32⟩
  | 66 => ⟨S_, .f32⟩
  | 67 => ⟨S8x2048x8x128, .f32⟩
  | 68 => ⟨S8x2048x8x128, .f32⟩
  | 69 => ⟨S8x2048x8x128, .f32⟩
  | 70 => ⟨S8x2048x8x128, .f32⟩
  | 71 => ⟨S_, .f32⟩
  | 72 => ⟨S8x2048x8, .f32⟩
  | 73 => ⟨S8x2048x8x1, .f32⟩
  | 74 => ⟨S_, .f32⟩
  | 75 => ⟨S8x2048x8x1, .f32⟩
  | 76 => ⟨S8x2048x8x1, .f32⟩
  | 77 => ⟨S_, .f32⟩
  | 78 => ⟨S8x2048x8x1, .f32⟩
  | 79 => ⟨S8x2048x8x1, .f32⟩
  | 80 => ⟨S8x2048x8x1, .f32⟩
  | 81 => ⟨S8x2048x8x128, .f32⟩
  | 82 => ⟨S8x2048x8x128, .f32⟩
  | 83 => ⟨S1x1x1x128, .f32⟩
  | 84 => ⟨S8x2048x8x128, .f32⟩
  | 85 => ⟨S8x2048x8x128, .f32⟩
  | 86 => ⟨S8x2048x64, .f32⟩
  | 87 => ⟨S_, .f32⟩
  | 88 => ⟨S8x2048, .f32⟩
  | 89 => ⟨S8x2048x1, .f32⟩
  | 90 => ⟨S_, .f32⟩
  | 91 => ⟨S8x2048x1, .f32⟩
  | 92 => ⟨S8x2048x1, .f32⟩
  | 93 => ⟨S_, .f32⟩
  | 94 => ⟨S8x2048x1, .f32⟩
  | 95 => ⟨S8x2048x1, .f32⟩
  | 96 => ⟨S8x2048x1, .f32⟩
  | 97 => ⟨S8x2048x64, .f32⟩
  | 98 => ⟨S8x2048x64, .f32⟩
  | 99 => ⟨S1x1x64, .f32⟩
  | 100 => ⟨S8x2048x64, .f32⟩
  | 101 => ⟨S8x2048x64, .f32⟩
  | 102 => ⟨S8x2048x8x128, .f32⟩
  | 103 => ⟨S8x2048x8x128, .f32⟩
  | 104 => ⟨S_, .f32⟩
  | 105 => ⟨S8x2048x8, .f32⟩
  | 106 => ⟨S8x2048x8x1, .f32⟩
  | 107 => ⟨S_, .f32⟩
  | 108 => ⟨S8x2048x8x1, .f32⟩
  | 109 => ⟨S8x2048x8x1, .f32⟩
  | 110 => ⟨S_, .f32⟩
  | 111 => ⟨S8x2048x8x1, .f32⟩
  | 112 => ⟨S8x2048x8x1, .f32⟩
  | 113 => ⟨S8x2048x8x1, .f32⟩
  | 114 => ⟨S8x2048x8x128, .f32⟩
  | 115 => ⟨S8x2048x8x128, .f32⟩
  | 116 => ⟨S1x1x1x128, .f32⟩
  | 117 => ⟨S8x2048x8x128, .f32⟩
  | 118 => ⟨S8x2048x8x128, .f32⟩
  | 119 => ⟨S_, .f32⟩
  | 120 => ⟨S8x2048x8x128, .f32⟩
  | 121 => ⟨S8x2048x8x128, .f32⟩
  | 122 => ⟨S8x2048x8x128, .f32⟩
  | 123 => ⟨S8x2048x8x128, .f32⟩
  | 124 => ⟨S_, .f32⟩
  | 125 => ⟨S8x2048x8, .f32⟩
  | 126 => ⟨S8x2048x8x1, .f32⟩
  | 127 => ⟨S_, .f32⟩
  | _ => ⟨S8x2048x2048, .f32⟩

abbrev hbmTy0_1 (i : Nat) : BufTy := match i % 128 with
  | 0 => ⟨S8x2048x8x1, .f32⟩
  | 1 => ⟨S8x2048x8x1, .f32⟩
  | 2 => ⟨S_, .f32⟩
  | 3 => ⟨S8x2048x8x1, .f32⟩
  | 4 => ⟨S8x2048x8x1, .f32⟩
  | 5 => ⟨S8x2048x8x1, .f32⟩
  | 6 => ⟨S8x2048x8x128, .f32⟩
  | 7 => ⟨S8x2048x8x128, .f32⟩
  | 8 => ⟨S1x1x1x128, .f32⟩
  | 9 => ⟨S8x2048x8x128, .f32⟩
  | 10 => ⟨S8x2048x8x128, .f32⟩
  | 11 => ⟨S8x2048x8x128, .f32⟩
  | 12 => ⟨S8x2048x8x128, .f32⟩
  | 13 => ⟨S8x2048x8x128, .f32⟩
  | 14 => ⟨S8x2048x8x128, .f32⟩
  | 15 => ⟨S8x2048x8x128, .f32⟩
  | 16 => ⟨S16384x8x128, .f32⟩
  | 17 => ⟨S8x16384x128, .f32⟩
  | 18 => ⟨S16384x8x128, .f32⟩
  | 19 => ⟨S8x16384x128, .f32⟩
  | 20 => ⟨S16384x8x128, .f32⟩
  | 21 => ⟨S8x16384x128, .f32⟩
  | 22 => ⟨S16384x8x128, .f32⟩
  | 23 => ⟨S8x16384x128, .f32⟩
  | 24 => ⟨S16384x8x128, .f32⟩
  | 25 => ⟨S8x16384x128, .f32⟩
  | 26 => ⟨S16384x8x128, .f32⟩
  | 27 => ⟨S8x16384x128, .f32⟩
  | 28 => ⟨S16384x8x128, .f32⟩
  | 29 => ⟨S8x16384x128, .f32⟩
  | 30 => ⟨S16384x8x128, .f32⟩
  | 31 => ⟨S8x16384x128, .f32⟩
  | 32 => ⟨S16384x8x128, .f32⟩
  | 33 => ⟨S8x16384x128, .f32⟩
  | 34 => ⟨S72x16384x128, .f32⟩
  | 35 => ⟨S8x2048x128, .f32⟩
  | 36 => ⟨S16384x128, .f32⟩
  | 37 => ⟨S16384x16, .f32⟩
  | 38 => ⟨S_, .i32⟩
  | 39 => ⟨S_, .f32⟩
  | 40 => ⟨S16384x128, .f32⟩
  | 41 => ⟨S72x16384x128, .bf16⟩
  | 42 => ⟨S16384x128, .bf16⟩
  | _ => ⟨S8x2048x2048, .f32⟩

abbrev hbmTy (i : Nat) : BufTy := match i / 128 with
  | 0 => hbmTy0_0 i
  | 1 => hbmTy0_1 i
  | _ => ⟨S8x2048x2048, .f32⟩

abbrev bufTy : (tb : Table) → Fin (tcTables nBuf tb) → BufTy
  | .hbm, ⟨i, _⟩ => hbmTy i
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_3 : Ref sig .tc := ⟨.hbm, 51, rfl⟩
abbrev main_v38 : Ref sig .tc := ⟨.hbm, 52, rfl⟩
abbrev main_v39 : Ref sig .tc := ⟨.hbm, 53, rfl⟩
abbrev main_cst_4 : Ref sig .tc := ⟨.hbm, 54, rfl⟩
abbrev main_v40 : Ref sig .tc := ⟨.hbm, 55, rfl⟩
abbrev main_v41 : Ref sig .tc := ⟨.hbm, 56, rfl⟩
abbrev main_cst_5 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_6 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_7 : Ref sig .tc := ⟨.hbm, 71, rfl⟩
abbrev main_v54 : Ref sig .tc := ⟨.hbm, 72, rfl⟩
abbrev main_v55 : Ref sig .tc := ⟨.hbm, 73, rfl⟩
abbrev main_cst_8 : Ref sig .tc := ⟨.hbm, 74, rfl⟩
abbrev main_v56 : Ref sig .tc := ⟨.hbm, 75, rfl⟩
abbrev main_v57 : Ref sig .tc := ⟨.hbm, 76, rfl⟩
abbrev main_cst_9 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_10 : Ref sig .tc := ⟨.hbm, 87, rfl⟩
abbrev main_v67 : Ref sig .tc := ⟨.hbm, 88, rfl⟩
abbrev main_v68 : Ref sig .tc := ⟨.hbm, 89, rfl⟩
abbrev main_cst_11 : Ref sig .tc := ⟨.hbm, 90, rfl⟩
abbrev main_v69 : Ref sig .tc := ⟨.hbm, 91, rfl⟩
abbrev main_v70 : Ref sig .tc := ⟨.hbm, 92, rfl⟩
abbrev main_cst_12 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_cst_13 : Ref sig .tc := ⟨.hbm, 104, rfl⟩
abbrev main_v81 : Ref sig .tc := ⟨.hbm, 105, rfl⟩
abbrev main_v82 : Ref sig .tc := ⟨.hbm, 106, rfl⟩
abbrev main_cst_14 : Ref sig .tc := ⟨.hbm, 107, rfl⟩
abbrev main_v83 : Ref sig .tc := ⟨.hbm, 108, rfl⟩
abbrev main_v84 : Ref sig .tc := ⟨.hbm, 109, rfl⟩
abbrev main_cst_15 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_cst_16 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_cst_17 : Ref sig .tc := ⟨.hbm, 124, rfl⟩
abbrev main_v97 : Ref sig .tc := ⟨.hbm, 125, rfl⟩
abbrev main_v98 : Ref sig .tc := ⟨.hbm, 126, rfl⟩
abbrev main_cst_18 : Ref sig .tc := ⟨.hbm, 127, rfl⟩
abbrev main_v99 : Ref sig .tc := ⟨.hbm, 128, rfl⟩
abbrev main_v100 : Ref sig .tc := ⟨.hbm, 129, rfl⟩
abbrev main_cst_19 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_c : Ref sig .tc := ⟨.hbm, 166, rfl⟩
abbrev main_call0_v0 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩

abbrev nD : Nat := 1
abbrev τ : Topo := Topo.v7x

variable {F : FTy → Type} [FloatOps F]
-- ==== KernelOut.lean ====
abbrev S16384x1024 : Shape := ⟨2, ![16384, 1024]⟩
abbrev S2048x2048 : Shape := ⟨2, ![2048, 2048]⟩
abbrev S8x2048x2048 : Shape := ⟨3, ![8, 2048, 2048]⟩
abbrev S8x6144 : Shape := ⟨2, ![8, 6144]⟩
abbrev S16384x2048 : Shape := ⟨2, ![16384, 2048]⟩
abbrev S8x3x2048 : Shape := ⟨3, ![8, 3, 2048]⟩
abbrev S512x1024 : Shape := ⟨2, ![512, 1024]⟩
abbrev S1024x2048 : Shape := ⟨2, ![1024, 2048]⟩
abbrev S512x2048 : Shape := ⟨2, ![512, 2048]⟩
abbrev S1x3x2048 : Shape := ⟨3, ![1, 3, 2048]⟩
abbrev S1024x512 : Shape := ⟨2, ![1024, 512]⟩
abbrev S512x512 : Shape := ⟨2, ![512, 512]⟩
abbrev S1x1x512 : Shape := ⟨3, ![1, 1, 512]⟩
abbrev S1x512 : Shape := ⟨2, ![1, 512]⟩

abbrev nBuf : Space → Nat
  | .hbm => 9
  | .vmem => 12
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S2048x2048, .f32⟩
  | .hbm, ⟨3, _⟩ => ⟨S8x2048x2048, .f32⟩
  | .hbm, ⟨4, _⟩ => ⟨S8x6144, .f32⟩
  | .hbm, ⟨5, _⟩ => ⟨S2048x2048, .bf16⟩
  | .hbm, ⟨6, _⟩ => ⟨S16384x2048, .f32⟩
  | .hbm, ⟨7, _⟩ => ⟨S8x3x2048, .f32⟩
  | .hbm, ⟨8, _⟩ => ⟨S16384x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x2048, .bf16⟩
  | .local _ .vmem, ⟨5, _⟩ => ⟨S1024x2048, .bf16⟩
  | .local _ .vmem, ⟨6, _⟩ => ⟨S512x2048, .f32⟩
  | .local _ .vmem, ⟨7, _⟩ => ⟨S512x2048, .f32⟩
  | .local _ .vmem, ⟨8, _⟩ => ⟨S1x3x2048, .f32⟩
  | .local _ .vmem, ⟨9, _⟩ => ⟨S1x3x2048, .f32⟩
  | .local _ .vmem, ⟨10, _⟩ => ⟨S512x2048, .f32⟩
  | .local _ .vmem, ⟨11, _⟩ => ⟨S512x2048, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x3x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceOutIdeal.lean ====
abbrev S16384x1024 : Shape := ⟨2, ![16384, 1024]⟩
abbrev S2048x2048 : Shape := ⟨2, ![2048, 2048]⟩
abbrev S8x2048x2048 : Shape := ⟨3, ![8, 2048, 2048]⟩
abbrev S8x6144 : Shape := ⟨2, ![8, 6144]⟩
abbrev S8x2048 : Shape := ⟨2, ![8, 2048]⟩
abbrev S8x2048x1024 : Shape := ⟨3, ![8, 2048, 1024]⟩
abbrev S8x1x2048 : Shape := ⟨3, ![8, 1, 2048]⟩
abbrev S16384x2048 : Shape := ⟨2, ![16384, 2048]⟩

abbrev nBuf : Space → Nat
  | .hbm => 19
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S2048x2048, .f32⟩
  | .hbm, ⟨3, _⟩ => ⟨S8x2048x2048, .f32⟩
  | .hbm, ⟨4, _⟩ => ⟨S8x6144, .f32⟩
  | .hbm, ⟨5, _⟩ => ⟨S8x2048, .f32⟩
  | .hbm, ⟨6, _⟩ => ⟨S8x2048, .f32⟩
  | .hbm, ⟨7, _⟩ => ⟨S8x2048, .f32⟩
  | .hbm, ⟨8, _⟩ => ⟨S16384x1024, .f32⟩
  | .hbm, ⟨9, _⟩ => ⟨S8x2048x1024, .f32⟩
  | .hbm, ⟨10, _⟩ => ⟨S16384x1024, .f32⟩
  | .hbm, ⟨11, _⟩ => ⟨S8x2048x1024, .f32⟩
  | .hbm, ⟨12, _⟩ => ⟨S8x2048x2048, .f32⟩
  | .hbm, ⟨13, _⟩ => ⟨S8x2048x2048, .f32⟩
  | .hbm, ⟨14, _⟩ => ⟨S8x1x2048, .f32⟩
  | .hbm, ⟨15, _⟩ => ⟨S8x2048x2048, .f32⟩
  | .hbm, ⟨16, _⟩ => ⟨S8x2048x2048, .f32⟩
  | .hbm, ⟨17, _⟩ => ⟨S8x2048x2048, .f32⟩
  | .hbm, ⟨18, _⟩ => ⟨S16384x2048, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== KernelMod.lean ====
abbrev S8x2048 : Shape := ⟨2, ![8, 2048]⟩
abbrev S2048x6144 : Shape := ⟨2, ![2048, 6144]⟩
abbrev S6144 : Shape := ⟨1, ![6144]⟩
abbrev S1x6144 : Shape := ⟨2, ![1, 6144]⟩
abbrev S8x6144 : Shape := ⟨2, ![8, 6144]⟩
abbrev S2048x1024 : Shape := ⟨2, ![2048, 1024]⟩
abbrev S1x1024 : Shape := ⟨2, ![1, 1024]⟩
abbrev S8x1024 : Shape := ⟨2, ![8, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S2048x6144, .f32⟩
  | .hbm, ⟨2, _⟩ => ⟨S6144, .f32⟩
  | .hbm, ⟨3, _⟩ => ⟨S1x6144, .f32⟩
  | .hbm, ⟨4, _⟩ => ⟨S8x6144, .f32⟩
  | .local _ .vmem, ⟨0, _⟩ => ⟨S8x2048, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceModIdeal.lean ====
abbrev S8x2048 : Shape := ⟨2, ![8, 2048]⟩
abbrev S2048x6144 : Shape := ⟨2, ![2048, 6144]⟩
abbrev S6144 : Shape := ⟨1, ![6144]⟩
abbrev S_ : Shape := ⟨0, ![]⟩
abbrev S8x6144 : Shape := ⟨2, ![8, 6144]⟩
abbrev S1x6144 : Shape := ⟨2, ![1, 6144]⟩

abbrev nBuf : Space → Nat
  | .hbm => 16
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2048x6144, .f32⟩
  | .hbm, ⟨2, _⟩ => ⟨S6144, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S8x6144, .f32⟩
  | .hbm, ⟨13, _⟩ => ⟨S1x6144, .f32⟩
  | .hbm, ⟨14, _⟩ => ⟨S8x6144, .f32⟩
  | .hbm, ⟨15, _⟩ => ⟨S8x6144, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== KernelRelayout.lean ====
abbrev S2048x9296 : Shape := ⟨2, ![2048, 9296]⟩
abbrev S9296x2048 : Shape := ⟨2, ![9296, 2048]⟩
abbrev S9216x2048 : Shape := ⟨2, ![9216, 2048]⟩
abbrev S256x2048 : Shape := ⟨2, ![256, 2048]⟩
abbrev S512x2048 : Shape := ⟨2, ![512, 2048]⟩
abbrev S128x2048 : Shape := ⟨2, ![128, 2048]⟩
abbrev S80x2048 : Shape := ⟨2, ![80, 2048]⟩
abbrev S432x2048 : Shape := ⟨2, ![432, 2048]⟩
abbrev S64x2048 : Shape := ⟨2, ![64, 2048]⟩
abbrev S16x2048 : Shape := ⟨2, ![16, 2048]⟩
abbrev S112x2048 : Shape := ⟨2, ![112, 2048]⟩

abbrev nBuf : Space → Nat
  | .hbm => 4
  | .vmem => 8
  | .smem => 0
  | _ => 0

abbrev bufTy : (tb : Table) → Fin (tcTables nBuf tb) → BufTy
  | .hbm, ⟨0, _⟩ => ⟨S2048x9296, .f32⟩
  | .hbm, ⟨1, _⟩ => ⟨S9296x2048, .f32⟩
  | .hbm, ⟨2, _⟩ => ⟨S9216x2048, .bf16⟩
  | .hbm, ⟨3, _⟩ => ⟨S256x2048, .bf16⟩
  | .local _ .vmem, ⟨0, _⟩ => ⟨S512x2048, .f32⟩
  | .local _ .vmem, ⟨1, _⟩ => ⟨S512x2048, .f32⟩
  | .local _ .vmem, ⟨2, _⟩ => ⟨S128x2048, .f32⟩
  | .local _ .vmem, ⟨3, _⟩ => ⟨S128x2048, .f32⟩
  | .local _ .vmem, ⟨4, _⟩ => ⟨S80x2048, .f32⟩
  | .local _ .vmem, ⟨5, _⟩ => ⟨S512x2048, .bf16⟩
  | .local _ .vmem, ⟨6, _⟩ => ⟨S512x2048, .bf16⟩
  | .local _ .vmem, ⟨7, _⟩ => ⟨S256x2048, .bf16⟩
  | _, _ => ⟨S2048x9296, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![18], ![false]⟩

def k0_cond1 (i : grid0.Coords) : BitVec 1 :=
  let arg0 : BitVec 32 := BitVec.ofNat 32 (i 0).val
  let c10_i32 : BitVec 32 := 10#32
  let v0 : BitVec 1 := Scalar.cmpi .slt arg0 c10_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c10_i32_0 : BitVec 32 := 10#32
  let v3 : BitVec 1 := Scalar.cmpi .sge arg0 c10_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c9_i32 : BitVec 32 := 9#32
  let v0 : BitVec 32 := Scalar.maxsi arg0 c9_i32
  let c1_i32 : BitVec 32 := 1#32
  let v1 : BitVec 32 := Scalar.addi v0 c1_i32
  let c4_i32 : BitVec 32 := 4#32
  let v2 : BitVec 32 := Scalar.muli v1 c4_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c64_i32 : BitVec 32 := 64#32
  let c0_i32 : BitVec 32 := 0#32
  let c0_i32_0 : BitVec 32 := 0#32
  ![c64_i32.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S80x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceRelayoutIdeal.lean ====
abbrev S2048x9296 : Shape := ⟨2, ![2048, 9296]⟩
abbrev S9296x2048 : Shape := ⟨2, ![9296, 2048]⟩
abbrev S5120x2048 : Shape := ⟨2, ![5120, 2048]⟩
abbrev S4096x2048 : Shape := ⟨2, ![4096, 2048]⟩
abbrev S9216x2048 : Shape := ⟨2, ![9216, 2048]⟩
abbrev S64x2048 : Shape := ⟨2, ![64, 2048]⟩
abbrev S16x2048 : Shape := ⟨2, ![16, 2048]⟩
abbrev S_ : Shape := ⟨0, ![]⟩
abbrev S112x2048 : Shape := ⟨2, ![112, 2048]⟩
abbrev S256x2048 : Shape := ⟨2, ![256, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x9296, .f32⟩
  | .hbm, ⟨1, _⟩ => ⟨S9296x2048, .f32⟩
  | .hbm, ⟨2, _⟩ => ⟨S5120x2048, .f32⟩
  | .hbm, ⟨3, _⟩ => ⟨S4096x2048, .f32⟩
  | .hbm, ⟨4, _⟩ => ⟨S9216x2048, .f32⟩
  | .hbm, ⟨5, _⟩ => ⟨S9216x2048, .bf16⟩
  | .hbm, ⟨6, _⟩ => ⟨S64x2048, .f32⟩
  | .hbm, ⟨7, _⟩ => ⟨S16x2048, .f32⟩
  | .hbm, ⟨8, _⟩ => ⟨S_, .f32⟩
  | .hbm, ⟨9, _⟩ => ⟨S112x2048, .f32⟩
  | .hbm, ⟨10, _⟩ => ⟨S256x2048, .f32⟩
  | .hbm, ⟨11, _⟩ => ⟨S256x2048, .bf16⟩
  | _, _ => ⟨S2048x9296, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== Proof.InStages.lean ====
module

public import proofs.«01_k».proof.Proof.Gen.ReferenceInIdeal.Run
public import proofs.«01_k».proof.Proof.Gen.ReferenceInIdeal.Read
public import Idealize.ShloMosaic.Lib.Claim

/-! The projection reference's run, each result stated as the last of the reference's stages. -/

@[expose] public section

set_option maxRecDepth 16384

noncomputable section

namespace Cert.ReferenceInIdeal.Hand

open Cert.ReferenceInIdeal Cert.ReferenceInIdeal.Read
open Idealize.ShloMosaic Idealize.ShloMosaic.TcCoe Idealize.SL.Sem

/-- Every run of the reference ends with its three results at their stages and its arguments unchanged. -/
theorem run_stages (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v137) = val_main_v137 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) (m ((c.tc : Thread nD τ).loc main_arg8))
      ∧ r.2.mem ((c.tc : Thread nD τ).loc main_v138) = val_main_v138 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6))
      ∧ r.2.mem ((c.tc : Thread nD τ).loc main_v136) = val_main_v136 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨(h c).1.trans (val_main_v137_eq m c), (h c).2.1.trans (val_main_v138_eq m c),
    (h c).2.2.1.trans (val_main_v136_eq _ _ _ _), (h c).2.2.2⟩) (Cert.ReferenceInIdeal.Value.run (F := Ideal) m ρ)

end Cert.ReferenceInIdeal.Hand

end
-- ==== Proof.InBody.lean ====
module

public import proofs.«01_k».proof.Proof.Gen.KernelInIdeal.Launch
public import proofs.«01_k».proof.Proof.Gen.KernelInIdeal.Skeleton
public import proofs.«01_k».proof.Proof.Gen.KernelInIdeal.Frame
public import Idealize.ShloMosaic.Lib.Pipeline.FrameBody
public import Idealize.ShloMosaic.Lib.Ring
public import Idealize.ShloMosaic.Lib.Tactic

/-! What one run of the projection's body leaves in its buffers: the modulated rows it keeps in scratch, the normed
key block and the weight block of the tail, and the eight lane blocks of the segment. -/

@[expose] public section

set_option maxRecDepth 16384

noncomputable section

namespace Cert.KernelInIdeal.Hand

open Cert.KernelInIdeal Cert.KernelInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The rectangles the body reads and writes -/

abbrev rX : Rect S1024x2048 := Rect.unit (s := S1024x2048) ![0, 0] S1024x2048.size inb_S1024x2048_S1024x2048_0_0
abbrev rM0 : Rect S1x3x2048 := Rect.unit (s := S1x3x2048) ![0, 0, 0] S1x1x2048.size inb_S1x3x2048_S1x1x2048_0_0_0
abbrev rM1 : Rect S1x3x2048 := Rect.unit (s := S1x3x2048) ![0, 1, 0] S1x1x2048.size inb_S1x3x2048_S1x1x2048_0_1_0
abbrev rG : Rect S1x2048 := Rect.unit (s := S1x2048) ![0, 0] S1x2048.size inb_S1x2048_S1x2048_0_0
abbrev rT : Rect S256x2048 := Rect.unit (s := S256x2048) ![0, 0] S256x2048.size inb_S256x2048_S256x2048_0_0
abbrev rK : Rect S1024x128 := Rect.unit (s := S1024x128) ![0, 0] S1024x128.size inb_S1024x128_S1024x128_0_0
abbrev rGk : Rect S1x128 := Rect.unit (s := S1x128) ![0, 0] S1x128.size inb_S1x128_S1x128_0_0
abbrev rGain : Rect S1x1x128 := Rect.unit (s := S1x1x128) ![0, 0, 0] S1x1x128.size inb_S1x1x128_S1x1x128_0_0_0
abbrev rW0 : Rect S1024x2048 := Rect.unit (s := S1024x2048) ![0, 0] S256x2048.size inb_S1024x2048_S256x2048_0_0
abbrev rW1 : Rect S1024x2048 := Rect.unit (s := S1024x2048) ![256, 0] S256x2048.size inb_S1024x2048_S256x2048_256_0
abbrev rW2 : Rect S1024x2048 := Rect.unit (s := S1024x2048) ![512, 0] S256x2048.size inb_S1024x2048_S256x2048_512_0
abbrev rW3 : Rect S1024x2048 := Rect.unit (s := S1024x2048) ![768, 0] S256x2048.size inb_S1024x2048_S256x2048_768_0
abbrev rP0 : Rect S8x1024x128 := Rect.unit (s := S8x1024x128) ![0, 0, 0] S1x1024x128.size inb_S8x1024x128_S1x1024x128_0_0_0
abbrev rP1 : Rect S8x1024x128 := Rect.unit (s := S8x1024x128) ![1, 0, 0] S1x1024x128.size inb_S8x1024x128_S1x1024x128_1_0_0
abbrev rP2 : Rect S8x1024x128 := Rect.unit (s := S8x1024x128) ![2, 0, 0] S1x1024x128.size inb_S8x1024x128_S1x1024x128_2_0_0
abbrev rP3 : Rect S8x1024x128 := Rect.unit (s := S8x1024x128) ![3, 0, 0] S1x1024x128.size inb_S8x1024x128_S1x1024x128_3_0_0
abbrev rP4 : Rect S8x1024x128 := Rect.unit (s := S8x1024x128) ![4, 0, 0] S1x1024x128.size inb_S8x1024x128_S1x1024x128_4_0_0
abbrev rP5 : Rect S8x1024x128 := Rect.unit (s := S8x1024x128) ![5, 0, 0] S1x1024x128.size inb_S8x1024x128_S1x1024x128_5_0_0
abbrev rP6 : Rect S8x1024x128 := Rect.unit (s := S8x1024x128) ![6, 0, 0] S1x1024x128.size inb_S8x1024x128_S1x1024x128_6_0_0
abbrev rP7 : Rect S8x1024x128 := Rect.unit (s := S8x1024x128) ![7, 0, 0] S1x1024x128.size inb_S8x1024x128_S1x1024x128_7_0_0

/-! ## What the body computes -/

/-- The modulated, normed rows the body keeps in scratch. -/
def rows (x0 : Vec F S1024x2048 .f32) (x1 : Vec F S1x3x2048 .f32) (x2 : Vec F S1x2048 .f32) : Vec F S1024x2048 .bf16 :=
  View.canon [⟨rX, k0_pay11 (View.ld x0 rX) (View.ld x1 rM0) (View.ld x2 rG) (View.ld x1 rM1)⟩]

/-- The normed key block of the tail. -/
def keyBlk (x0 : Vec F S1024x2048 .f32) (x1 : Vec F S1x3x2048 .f32) (x2 : Vec F S1x2048 .f32) (x4 : Vec F S256x2048 .bf16)
    (x6 : Vec F S1x128 .f32) : Vec F S1024x128 .bf16 :=
  View.canon [⟨rK, k0_pay1 (k0_pay13 (View.ld x0 rX) (View.ld x1 rM0) (View.ld x2 rG) (View.ld x1 rM1) (View.ld x4 rT))
    (k0_pay14 (View.ld x0 rX) (View.ld x1 rM0) (View.ld x2 rG) (View.ld x1 rM1) (View.ld x4 rT)) (View.ld x6 rGk)⟩]

/-- The weight block of the tail. -/
def wgtBlk (x0 : Vec F S1024x2048 .f32) (x1 : Vec F S1x3x2048 .f32) (x2 : Vec F S1x2048 .f32) (x4 : Vec F S256x2048 .bf16) :
    Vec F S1024x128 .f32 :=
  View.canon [⟨rK, k0_pay2 (k0_pay12 (View.ld x0 rX) (View.ld x1 rM0) (View.ld x2 rG) (View.ld x1 rM1) (View.ld x4 rT))⟩]

/-- The eight lane blocks of a segment with norm. -/
def normBlk (h : Vec F S1024x2048 .bf16) (x3 : Vec F S1024x2048 .bf16) (x5 : Vec F S1x1x128 .f32) : Vec F S8x1024x128 .bf16 :=
  View.canon [⟨rP7, k0_pay4 (k0_pay15 (View.ld x5 rGain)) (k0_pay27 (View.ld h rX) (View.ld x3 rW3))⟩,
    ⟨rP6, k0_pay3 (k0_pay15 (View.ld x5 rGain)) (k0_pay28 (View.ld h rX) (View.ld x3 rW3)) (k0_pay29 (View.ld h rX) (View.ld x3 rW3))⟩,
    ⟨rP5, k0_pay26 (k0_pay15 (View.ld x5 rGain)) (View.ld h rX) (k0_pay23 (View.ld x3 rW2))⟩,
    ⟨rP4, k0_pay25 (k0_pay15 (View.ld x5 rGain)) (View.ld h rX) (k0_pay23 (View.ld x3 rW2))⟩,
    ⟨rP3, k0_pay22 (k0_pay15 (View.ld x5 rGain)) (View.ld h rX) (View.ld x3 rW1)⟩,
    ⟨rP2, k0_pay21 (k0_pay15 (View.ld x5 rGain)) (View.ld h rX) (View.ld x3 rW1)⟩,
    ⟨rP1, k0_pay19 (k0_pay18 (View.ld x5 rGain) (View.ld h rX) (View.ld x3 rW0))⟩,
    ⟨rP0, k0_pay17 (View.ld x5 rGain) (View.ld h rX) (View.ld x3 rW0)⟩]

/-- The eight lane blocks of a segment without norm. -/
def plainBlk (h : Vec F S1024x2048 .bf16) (x3 : Vec F S1024x2048 .bf16) : Vec F S8x1024x128 .bf16 :=
  View.canon [⟨rP7, k0_pay9 (View.ld h rX) (View.ld x3 rW3)⟩, ⟨rP6, k0_pay8 (View.ld h rX) (View.ld x3 rW3)⟩,
    ⟨rP5, k0_pay6 (k0_pay36 (View.ld h rX) (View.ld x3 rW2))⟩, ⟨rP4, k0_pay5 (k0_pay37 (View.ld h rX) (View.ld x3 rW2))⟩,
    ⟨rP3, k0_pay35 (View.ld h rX) (View.ld x3 rW1)⟩, ⟨rP2, k0_pay34 (View.ld h rX) (View.ld x3 rW1)⟩,
    ⟨rP1, k0_pay32 (View.ld h rX) (View.ld x3 rW0)⟩, ⟨rP0, k0_pay31 (View.ld h rX) (View.ld x3 rW0)⟩]

/-- Eight blocks, one per head position, cover the segment's buffer. -/
theorem cover_seg (p7 p6 p5 p4 p3 p2 p1 p0 : Vec F S1x1024x128 .bf16) (y : S8x1024x128.Idx) :
    ∃ pc ∈ ([⟨rP7, p7⟩, ⟨rP6, p6⟩, ⟨rP5, p5⟩, ⟨rP4, p4⟩, ⟨rP3, p3⟩, ⟨rP2, p2⟩, ⟨rP1, p1⟩, ⟨rP0, p0⟩] : List (View.Piece (Elt F) S8x1024x128 .bf16)), y ∈ pc.1.set :=
  View.cover_of_tiledL (s := S8x1024x128) _ S1x1024x128.size (by sl_kernel_rfl) y

/-- One whole store covers the scratch. -/
theorem cover_rows (p : Vec F S1024x2048 .bf16) (y : S1024x2048.Idx) :
    ∃ pc ∈ ([⟨rX, p⟩] : List (View.Piece (Elt F) S1024x2048 .bf16)), y ∈ pc.1.set :=
  View.cover_of_tiledL _ S1024x2048.size (by sl_kernel_rfl) y

/-- One whole store covers a tail block, whatever it holds. -/
theorem cover_tail (e : EltTy) (p : S1024x128.Idx → Elt F e) (y : S1024x128.Idx) :
    ∃ pc ∈ ([⟨rK, p⟩] : List (View.Piece (Elt F) S1024x128 e)), y ∈ pc.1.set :=
  View.cover_of_tiledL _ S1024x128.size (by sl_kernel_rfl) y

/-- The scratch read back after its one store holds what was stored. -/
theorem rows_back (v : View sig .tc .vmem S1024x2048 .bf16) (p : Vec F S1024x2048 .bf16) :
    v.readCov [⟨Rect.unit (s := S1024x2048) ![0, 0] ![1024, 2048] inb_S1024x2048_S1024x2048_0_0, p⟩]
      (Rect.unit (s := S1024x2048) ![0, 0] ![1024, 2048] inb_S1024x2048_S1024x2048_0_0).toLoadRect = View.ld (View.canon [⟨rX, p⟩]) rX :=
  View.readCov_eq_canon_ld v _ rX (cover_rows _)

end Cert.KernelInIdeal.Hand

end
-- ==== Proof.InFirst.lean ====
module

public import proofs.«01_k».proof.Proof.InBody
public import proofs.«01_k».proof.Proof.Gen.KernelInIdeal.Launch
public import proofs.«01_k».proof.Proof.Gen.KernelInIdeal.Skeleton
public import proofs.«01_k».proof.Proof.Gen.KernelInIdeal.Frame
public import Idealize.ShloMosaic.Lib.Pipeline.FrameBody
public import Idealize.ShloMosaic.Lib.Ring
public import Idealize.ShloMosaic.Lib.Tactic

/-! The body at the first point of a row block: it fills the scratch, stores both tail blocks and one segment. -/

@[expose] public section

set_option maxRecDepth 16384

noncomputable section

namespace Cert.KernelInIdeal.Hand

open Cert.KernelInIdeal Cert.KernelInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

section Runs

variable (c : Dev nD) (i : grid0.Coords)
  (arg2 : Memref sig .tc .vmem S1024x2048 .f32) (harg2 : arg2.IsWhole) (arg3 : Memref sig .tc .vmem S1x3x2048 .f32) (harg3 : arg3.IsWhole)
  (arg4 : Memref sig .tc .vmem S1x2048 .f32) (harg4 : arg4.IsWhole) (arg5 : Memref sig .tc .vmem S1024x2048 .bf16) (harg5 : arg5.IsWhole)
  (arg6 : Memref sig .tc .vmem S256x2048 .bf16) (harg6 : arg6.IsWhole) (arg7 : Memref sig .tc .vmem S1x1x128 .f32) (harg7 : arg7.IsWhole)
  (arg8 : Memref sig .tc .vmem S1x128 .f32) (harg8 : arg8.IsWhole) (arg9 : Memref sig .tc .vmem S8x1024x128 .bf16) (harg9 : arg9.IsWhole)
  (arg10 : Memref sig .tc .vmem S1024x128 .bf16) (harg10 : arg10.IsWhole) (arg11 : Memref sig .tc .vmem S1024x128 .f32) (harg11 : arg11.IsWhole)
  (arg12 : Memref sig .tc .vmem S1024x2048 .bf16) (harg12 : arg12.IsWhole)
  (x0 : Vec F S1024x2048 .f32) (x1 : Vec F S1x3x2048 .f32) (x2 : Vec F S1x2048 .f32) (x3 : Vec F S1024x2048 .bf16) (x4 : Vec F S256x2048 .bf16)
  (x5 : Vec F S1x1x128 .f32) (x6 : Vec F S1x128 .f32)

set_option maxHeartbeats 400000 in
/-- The body at the first point of a row block, on a segment without norm. -/
theorem run_first_plain (hc1 : k0_cond1 i = 1#1) (hc2 : ¬k0_cond2 i = 1#1) (hc3 : k0_cond3 i = 1#1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (plainBlk (rows x0 x1 x2) x3) ∗ owns (c : Thread nD τ) arg10 fullShare (keyBlk x0 x1 x2 x4 x6) ∗ owns (c : Thread nD τ) arg11 fullShare (wgtBlk x0 x1 x2 x4) ∗ owns (c : Thread nD τ) arg12 fullShare (rows x0 x1 x2)) -∗ K ⟨⟩))
      ⊢ wp frame (wpE (defs₀ (F := F)) Variants.none c none) E
        (cc0_in_proj i arg2 harg2 arg3 harg3 arg4 harg4 arg5 harg5 arg6 harg6 arg7 harg7 arg8 harg8 arg9 harg9 arg10 harg10 arg11 harg11 arg12 harg12) K := by
  simp only [cc0_in_proj_eq_skeleton]; unfold cc0_in_proj_skel
  simp only [k0_part1_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%ds, %fs, -, HS⟩, Hk⟩
  subst hf0 hf1 hf2 hf3 hf4 hf5 hf6
  sl_exec (disch := first | sl_exact hc1 | sl_exact hc2 | sl_exact hc3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr; swap; · iexact H7
    ipureintro; refine (View.read_writes_eq_canon _ _ _ (cover_seg _ _ _ _ _ _ _ _)).trans ?_
    sl_unfold_words
    rw [rows_back]
    rfl
  isplitl [H8]
  · iexists _; isplitr; swap; · iexact H8
    ipureintro; exact View.read_writes_eq_canon _ _ _ (cover_tail _ _)
  isplitl [H9]
  · iexists _; isplitr; swap; · iexact H9
    ipureintro; exact View.read_writes_eq_canon _ _ _ (cover_tail _ _)
  iexists _; isplitr; swap; · iexact HS
  ipureintro; exact View.read_writes_eq_canon _ _ _ (cover_rows _)

set_option maxHeartbeats 400000 in
/-- The body at the first point of a row block, on a segment with norm. -/
theorem run_first_norm (hc1 : k0_cond1 i = 1#1) (hc2 : k0_cond2 i = 1#1) (hc3 : ¬k0_cond3 i = 1#1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (normBlk (rows x0 x1 x2) x3 x5) ∗ owns (c : Thread nD τ) arg10 fullShare (keyBlk x0 x1 x2 x4 x6) ∗ owns (c : Thread nD τ) arg11 fullShare (wgtBlk x0 x1 x2 x4) ∗ owns (c : Thread nD τ) arg12 fullShare (rows x0 x1 x2)) -∗ K ⟨⟩))
      ⊢ wp frame (wpE (defs₀ (F := F)) Variants.none c none) E
        (cc0_in_proj i arg2 harg2 arg3 harg3 arg4 harg4 arg5 harg5 arg6 harg6 arg7 harg7 arg8 harg8 arg9 harg9 arg10 harg10 arg11 harg11 arg12 harg12) K := by
  simp only [cc0_in_proj_eq_skeleton]; unfold cc0_in_proj_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%ds, %fs, -, HS⟩, Hk⟩
  subst hf0 hf1 hf2 hf3 hf4 hf5 hf6
  sl_exec (disch := first | sl_exact hc1 | sl_exact hc2 | sl_exact hc3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr; swap; · iexact H7
    ipureintro; refine (View.read_writes_eq_canon _ _ _ (cover_seg _ _ _ _ _ _ _ _)).trans ?_
    sl_unfold_words
    rw [rows_back]
    rfl
  isplitl [H8]
  · iexists _; isplitr; swap; · iexact H8
    ipureintro; exact View.read_writes_eq_canon _ _ _ (cover_tail _ _)
  isplitl [H9]
  · iexists _; isplitr; swap; · iexact H9
    ipureintro; exact View.read_writes_eq_canon _ _ _ (cover_tail _ _)
  iexists _; isplitr; swap; · iexact HS
  ipureintro; exact View.read_writes_eq_canon _ _ _ (cover_rows _)

end Runs

end Cert.KernelInIdeal.Hand

end
-- ==== Proof.InLater.lean ====
module

public import proofs.«01_k».proof.Proof.InBody
public import proofs.«01_k».proof.Proof.Gen.KernelInIdeal.Launch
public import proofs.«01_k».proof.Proof.Gen.KernelInIdeal.Skeleton
public import proofs.«01_k».proof.Proof.Gen.KernelInIdeal.Frame
public import Idealize.ShloMosaic.Lib.Pipeline.FrameBody
public import Idealize.ShloMosaic.Lib.Ring
public import Idealize.ShloMosaic.Lib.Tactic

/-! The body at a later point of a row block: it reads the rows from scratch and stores one segment. -/

@[expose] public section

set_option maxRecDepth 16384

noncomputable section

namespace Cert.KernelInIdeal.Hand

open Cert.KernelInIdeal Cert.KernelInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

section Runs

variable (c : Dev nD) (i : grid0.Coords)
  (arg2 : Memref sig .tc .vmem S1024x2048 .f32) (harg2 : arg2.IsWhole) (arg3 : Memref sig .tc .vmem S1x3x2048 .f32) (harg3 : arg3.IsWhole)
  (arg4 : Memref sig .tc .vmem S1x2048 .f32) (harg4 : arg4.IsWhole) (arg5 : Memref sig .tc .vmem S1024x2048 .bf16) (harg5 : arg5.IsWhole)
  (arg6 : Memref sig .tc .vmem S256x2048 .bf16) (harg6 : arg6.IsWhole) (arg7 : Memref sig .tc .vmem S1x1x128 .f32) (harg7 : arg7.IsWhole)
  (arg8 : Memref sig .tc .vmem S1x128 .f32) (harg8 : arg8.IsWhole) (arg9 : Memref sig .tc .vmem S8x1024x128 .bf16) (harg9 : arg9.IsWhole)
  (arg10 : Memref sig .tc .vmem S1024x128 .bf16) (harg10 : arg10.IsWhole) (arg11 : Memref sig .tc .vmem S1024x128 .f32) (harg11 : arg11.IsWhole)
  (arg12 : Memref sig .tc .vmem S1024x2048 .bf16) (harg12 : arg12.IsWhole)
  (x0 : Vec F S1024x2048 .f32) (x1 : Vec F S1x3x2048 .f32) (x2 : Vec F S1x2048 .f32) (x3 : Vec F S1024x2048 .bf16) (x4 : Vec F S256x2048 .bf16)
  (x5 : Vec F S1x1x128 .f32) (x6 : Vec F S1x128 .f32)

set_option maxHeartbeats 400000 in
/-- The body at a later point of a row block, on a segment without norm. -/
theorem run_later_plain (hc1 : ¬k0_cond1 i = 1#1) (hc2 : ¬k0_cond2 i = 1#1) (hc3 : k0_cond3 i = 1#1) (h : Vec F S1024x2048 .bf16) (d8 : Vec F S1024x128 .bf16) (d9 : Vec F S1024x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare d8 ∗ owns (c : Thread nD τ) arg11 fullShare d9 ∗ owns (c : Thread nD τ) arg12 fullShare h
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (plainBlk h x3) ∗ owns (c : Thread nD τ) arg10 fullShare d8 ∗ owns (c : Thread nD τ) arg11 fullShare d9 ∗ owns (c : Thread nD τ) arg12 fullShare h) -∗ K ⟨⟩))
      ⊢ wp frame (wpE (defs₀ (F := F)) Variants.none c none) E
        (cc0_in_proj i arg2 harg2 arg3 harg3 arg4 harg4 arg5 harg5 arg6 harg6 arg7 harg7 arg8 harg8 arg9 harg9 arg10 harg10 arg11 harg11 arg12 harg12) K := by
  simp only [cc0_in_proj_eq_skeleton]; unfold cc0_in_proj_skel
  simp only [k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%fs, %hfs, HS⟩, Hk⟩
  subst hf0 hf1 hf2 hf3 hf4 hf5 hf6 hf8 hf9 hfs
  sl_exec (disch := first | sl_exact hc1 | sl_exact hc2 | sl_exact hc3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr; swap; · iexact H7
    ipureintro; exact View.read_writes_eq_canon _ _ _ (cover_seg _ _ _ _ _ _ _ _)
  isplitl [H8]
  · iexists f8; isplitr; · ipureintro; rfl
    iexact H8
  isplitl [H9]
  · iexists f9; isplitr; · ipureintro; rfl
    iexact H9
  iexists fs; isplitr; · ipureintro; rfl
  iexact HS

set_option maxHeartbeats 400000 in
/-- The body at a later point of a row block, on a segment with norm. -/
theorem run_later_norm (hc1 : ¬k0_cond1 i = 1#1) (hc2 : k0_cond2 i = 1#1) (hc3 : ¬k0_cond3 i = 1#1) (h : Vec F S1024x2048 .bf16) (d8 : Vec F S1024x128 .bf16) (d9 : Vec F S1024x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare d8 ∗ owns (c : Thread nD τ) arg11 fullShare d9 ∗ owns (c : Thread nD τ) arg12 fullShare h
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (normBlk h x3 x5) ∗ owns (c : Thread nD τ) arg10 fullShare d8 ∗ owns (c : Thread nD τ) arg11 fullShare d9 ∗ owns (c : Thread nD τ) arg12 fullShare h) -∗ K ⟨⟩))
      ⊢ wp frame (wpE (defs₀ (F := F)) Variants.none c none) E
        (cc0_in_proj i arg2 harg2 arg3 harg3 arg4 harg4 arg5 harg5 arg6 harg6 arg7 harg7 arg8 harg8 arg9 harg9 arg10 harg10 arg11 harg11 arg12 harg12) K := by
  simp only [cc0_in_proj_eq_skeleton]; unfold cc0_in_proj_skel
  simp only [k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%fs, %hfs, HS⟩, Hk⟩
  subst hf0 hf1 hf2 hf3 hf4 hf5 hf6 hf8 hf9 hfs
  sl_exec (disch := first | sl_exact hc1 | sl_exact hc2 | sl_exact hc3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr; swap; · iexact H7
    ipureintro; exact View.read_writes_eq_canon _ _ _ (cover_seg _ _ _ _ _ _ _ _)
  isplitl [H8]
  · iexists f8; isplitr; · ipureintro; rfl
    iexact H8
  isplitl [H9]
  · iexists f9; isplitr; · ipureintro; rfl
    iexact H9
  iexists fs; isplitr; · ipureintro; rfl
  iexact HS

end Runs

end Cert.KernelInIdeal.Hand

end
-- ==== Proof.InFrame.lean ====
module

public import proofs.«01_k».proof.Proof.InFirst
public import proofs.«01_k».proof.Proof.InLater
public import proofs.«01_k».proof.Proof.Gen.KernelInIdeal.Points
public import Idealize.ShloMosaic.Lib.Pipeline.TableIdle
public import Idealize.ShloMosaic.Lib.Claim

/-! The projection's run: at every grid point what each buffer holds after the body, the invariant that carries the
scratch rows from the first point of a row block to its last, and the run of the whole program. -/

@[expose] public section

set_option maxRecDepth 16384

noncomputable section

namespace Cert.KernelInIdeal.Hand

open Cert.KernelInIdeal Cert.KernelInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body, whatever the segment -/

/-- The segment's eight lane blocks at grid coordinates `i`: normed where the point says so. -/
def seg (i : grid0.Coords) (h : Vec F S1024x2048 .bf16) (x3 : Vec F S1024x2048 .bf16) (x5 : Vec F S1x1x128 .f32) : Vec F S8x1024x128 .bf16 :=
  if k0_cond2 i = 1#1 then normBlk h x3 x5 else plainBlk h x3

section Body

variable (c : Dev nD) (i : grid0.Coords)
  (arg2 : Memref sig .tc .vmem S1024x2048 .f32) (harg2 : arg2.IsWhole) (arg3 : Memref sig .tc .vmem S1x3x2048 .f32) (harg3 : arg3.IsWhole)
  (arg4 : Memref sig .tc .vmem S1x2048 .f32) (harg4 : arg4.IsWhole) (arg5 : Memref sig .tc .vmem S1024x2048 .bf16) (harg5 : arg5.IsWhole)
  (arg6 : Memref sig .tc .vmem S256x2048 .bf16) (harg6 : arg6.IsWhole) (arg7 : Memref sig .tc .vmem S1x1x128 .f32) (harg7 : arg7.IsWhole)
  (arg8 : Memref sig .tc .vmem S1x128 .f32) (harg8 : arg8.IsWhole) (arg9 : Memref sig .tc .vmem S8x1024x128 .bf16) (harg9 : arg9.IsWhole)
  (arg10 : Memref sig .tc .vmem S1024x128 .bf16) (harg10 : arg10.IsWhole) (arg11 : Memref sig .tc .vmem S1024x128 .f32) (harg11 : arg11.IsWhole)
  (arg12 : Memref sig .tc .vmem S1024x2048 .bf16) (harg12 : arg12.IsWhole)
  (x0 : Vec F S1024x2048 .f32) (x1 : Vec F S1x3x2048 .f32) (x2 : Vec F S1x2048 .f32) (x3 : Vec F S1024x2048 .bf16) (x4 : Vec F S256x2048 .bf16)
  (x5 : Vec F S1x1x128 .f32) (x6 : Vec F S1x128 .f32)

/-- The body at the first point of a row block. -/
theorem run_first (hc1 : k0_cond1 i = 1#1) (h23 : k0_cond3 i = 1#1 ↔ ¬k0_cond2 i = 1#1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (seg i (rows x0 x1 x2) x3 x5) ∗ owns (c : Thread nD τ) arg10 fullShare (keyBlk x0 x1 x2 x4 x6) ∗ owns (c : Thread nD τ) arg11 fullShare (wgtBlk x0 x1 x2 x4) ∗ owns (c : Thread nD τ) arg12 fullShare (rows x0 x1 x2)) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12) K := by
  unfold seg
  by_cases h2 : k0_cond2 i = 1#1
  · rw [if_pos h2]
    exact run_first_norm c i arg2 harg2 arg3 harg3 arg4 harg4 arg5 harg5 arg6 harg6 arg7 harg7 arg8 harg8 arg9 harg9 arg10 harg10 arg11 harg11 arg12 harg12 x0 x1 x2 x3 x4 x5 x6 hc1 h2 (fun h => h23.mp h h2) E K
  · rw [if_neg h2]
    exact run_first_plain c i arg2 harg2 arg3 harg3 arg4 harg4 arg5 harg5 arg6 harg6 arg7 harg7 arg8 harg8 arg9 harg9 arg10 harg10 arg11 harg11 arg12 harg12 x0 x1 x2 x3 x4 x5 x6 hc1 h2 (h23.mpr h2) E K

/-- The body at a later point of a row block. -/
theorem run_later (hc1 : ¬k0_cond1 i = 1#1) (h23 : k0_cond3 i = 1#1 ↔ ¬k0_cond2 i = 1#1) (h : Vec F S1024x2048 .bf16) (d8 : Vec F S1024x128 .bf16) (d9 : Vec F S1024x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare d8 ∗ owns (c : Thread nD τ) arg11 fullShare d9 ∗ owns (c : Thread nD τ) arg12 fullShare h
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (seg i h x3 x5) ∗ owns (c : Thread nD τ) arg10 fullShare d8 ∗ owns (c : Thread nD τ) arg11 fullShare d9 ∗ owns (c : Thread nD τ) arg12 fullShare h) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12) K := by
  unfold seg
  by_cases h2 : k0_cond2 i = 1#1
  · rw [if_pos h2]
    exact run_later_norm c i arg2 harg2 arg3 harg3 arg4 harg4 arg5 harg5 arg6 harg6 arg7 harg7 arg8 harg8 arg9 harg9 arg10 harg10 arg11 harg11 arg12 harg12 x0 x1 x2 x3 x4 x5 x6 hc1 h2 (fun h => h23.mp h h2) h d8 d9 E K
  · rw [if_neg h2]
    exact run_later_plain c i arg2 harg2 arg3 harg3 arg4 harg4 arg5 harg5 arg6 harg6 arg7 harg7 arg8 harg8 arg9 harg9 arg10 harg10 arg11 harg11 arg12 harg12 x0 x1 x2 x3 x4 x5 x6 hc1 h2 (h23.mpr h2) h d8 d9 E K

end Body

variable (m : (ℓ : Loc nD τ sig) → Buf (Elt F) ℓ) (ρ : Dev nD → PrngReg)

/-! ## The schedule -/

/-- The scratch is filled at the first point of each row block. -/
theorem cond1_iff : ∀ t : Fin cfg0.N, k0_cond1 (grid0.coords t) = 1#1 ↔ t.val % 9 = 0 :=
  (by decide +kernel : ∀ t : Fin grid0.N, k0_cond1 (grid0.coords t) = 1#1 ↔ t.val % 9 = 0)

/-- A segment is either normed or plain. -/
theorem cond23 : ∀ t : Fin cfg0.N, k0_cond3 (grid0.coords t) = 1#1 ↔ ¬k0_cond2 (grid0.coords t) = 1#1 :=
  (by decide +kernel : ∀ t : Fin grid0.N, k0_cond3 (grid0.coords t) = 1#1 ↔ ¬k0_cond2 (grid0.coords t) = 1#1)

/-- The tail windows are written at the first point of a row block only. -/
theorem idle8 : ∀ t : Fin cfg0.N, cfg0.idle 8 (grid0.coords t) = true ↔ t.val % 9 ≠ 0 :=
  (by decide +kernel : ∀ t : Fin grid0.N, cfg0.idle 8 (grid0.coords t) = true ↔ t.val % 9 ≠ 0)
theorem idle9 : ∀ t : Fin cfg0.N, cfg0.idle 9 (grid0.coords t) = true ↔ t.val % 9 ≠ 0 :=
  (by decide +kernel : ∀ t : Fin grid0.N, cfg0.idle 9 (grid0.coords t) = true ↔ t.val % 9 ≠ 0)

/-- The segment window is written at every point. -/
theorem live7 : ∀ t : Fin cfg0.N, cfg0.idle 7 (grid0.coords t) = false :=
  (by decide +kernel : ∀ t : Fin grid0.N, cfg0.idle 7 (grid0.coords t) = false)

/-- Before a point the tail buffers hold nothing of this row block exactly at its first point. -/
theorem fresh8 (n : ℕ) (h : n ≤ cfg0.N) : cfg0.fresh 8 n = decide (n % 9 = 0) :=
  Cfg.fresh_tab cfg0 8 (fun n => decide (n % 9 = 0)) rfl (by decide +kernel) n h
theorem fresh9 (n : ℕ) (h : n ≤ cfg0.N) : cfg0.fresh 9 n = decide (n % 9 = 0) :=
  Cfg.fresh_tab cfg0 9 (fun n => decide (n % 9 = 0)) rfl (by decide +kernel) n h

/-- The first point of the row block of point `t`. -/
def base (t : Fin cfg0.N) : Fin cfg0.N := ⟨t.val / 9 * 9, lt_of_le_of_lt (Nat.div_mul_le_self _ _) t.isLt⟩

theorem base_first (t : Fin cfg0.N) (h : t.val % 9 = 0) : base t = t := Fin.ext (by show t.val / 9 * 9 = t.val; omega)

theorem base_pred (t : Fin cfg0.N) (h : t.val % 9 ≠ 0) (hp : t.val - 1 < cfg0.N) : base ⟨t.val - 1, hp⟩ = base t :=
  Fin.ext (by show (t.val - 1) / 9 * 9 = t.val / 9 * 9; omega)

/-! ## What the buffers hold -/

/-- The rows, the key block and the weight block of the row block whose first point is `b`. -/
def rowsAt (c : Dev nD) (b : Fin cfg0.N) : Vec F S1024x2048 .bf16 := rows (iblk m c 0 b) (iblk m c 1 b) (iblk m c 2 b)
def keyAt (c : Dev nD) (b : Fin cfg0.N) : Vec F S1024x128 .bf16 :=
  keyBlk (iblk m c 0 b) (iblk m c 1 b) (iblk m c 2 b) (iblk m c 4 b) (iblk m c 6 b)
def wgtAt (c : Dev nD) (b : Fin cfg0.N) : Vec F S1024x128 .f32 :=
  wgtBlk (iblk m c 0 b) (iblk m c 1 b) (iblk m c 2 b) (iblk m c 4 b)

/-- The scratch, as a memref. -/
abbrev scM : Memref sig .tc .vmem S1024x2048 .bf16 := Memref.whole cc0_scratch0

/-- The invariant before position `n`: at first the scratch at anything; then the rows of the last point's row block. -/
def Phi (c : Dev nD) : (n : ℕ) → n ≤ cfg0.N → sProp 𝕄
  | 0, _ => Pipeline.ΦA spec0 c
  | n + 1, hn => iprop(owns (c : Thread nD τ) scM fullShare (rowsAt m c (base ⟨n, hn⟩)) ∗ (∃ r, prngReg c r))

/-- What the launch hands over: the scratch at anything and the generator register. -/
theorem start_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

/-- The proof data: every input at its block, the segment of the row block's rows, the tail blocks of the row block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => seg (grid0.coords t) (rowsAt m c (base t)) (iblk m c 3 t) (iblk m c 5 t)
    | ⟨8, _⟩ => keyAt m c (base t)
    | ⟨9, _⟩ => wgtAt m c (base t)
  Φ t := Phi m c t.val (Nat.le_of_lt_succ t.isLt)
  q _ := fullShare
  owed _ := 0

theorem A_eq (c : Dev nD) (w : Fin cfg0.W) : (dats m 0 c).A w = V m c (Pipeline.arrRef spec0 w) := by dsimp only [dats]

/-! What each buffer holds after the body, window by window. -/

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) :
    (dats m 0 c).after 7 t = seg (grid0.coords t) (rowsAt m c (base t)) (iblk m c 3 t) (iblk m c 5 t) := by dsimp only [dats]
theorem after8 (c : Dev nD) (t : Fin cfg0.N) : (dats m 0 c).after 8 t = keyAt m c (base t) := by dsimp only [dats]
theorem after9 (c : Dev nD) (t : Fin cfg0.N) : (dats m 0 c).after 9 t = wgtAt m c (base t) := by dsimp only [dats]

/-! An input's buffer holds its block at every point. -/

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

/-- At a later point of a row block tail window 8 still holds what its first point left. -/
theorem before8 (c : Dev nD) (t : Fin cfg0.N) (h : t.val % 9 ≠ 0) (d) : (dats m 0 c).before 8 t d = keyAt m c (base t) := by
  rw [Dat.before_out_traj (dats m 0 c) 8 rfl (fun _ _ => rfl) (fun t hz _ hf => ?_) t.val t rfl d, fresh8 t.val (Nat.le_of_lt t.isLt),
    decide_eq_false h, if_neg Bool.false_ne_true, after8, base_pred t h]
  rw [fresh8 t.val (Nat.le_of_lt t.isLt)] at hf
  rw [after8, after8, base_pred t (of_decide_eq_false hf)]

/-- The row block's tail contents are what the body must leave in tail window 8, whether or not it is written back. -/
theorem leaves8 (c : Dev nD) (t : Fin cfg0.N) :
    owns (c : Thread nD τ) (st0_8 t) fullShare (keyAt m c (base t)) ⊢ ((dats m 0 c).leavesExact 8 t : sProp 𝕄) := by
  unfold Dat.leavesExact
  rw [after8]
  cases hi : cfg0.idle 8 (cfg0.grid.coords t) with
  | false => exact .rfl
  | true =>
    cases hf : (cfg0.win 8).flush t with
    | true => exact .rfl
    | false =>
      iintro H; iexists keyAt m c (base t)
      rw [before8 m c t ((idle8 t).mp hi)]
      iexact H

/-- At a later point of a row block tail window 9 still holds what its first point left. -/
theorem before9 (c : Dev nD) (t : Fin cfg0.N) (h : t.val % 9 ≠ 0) (d) : (dats m 0 c).before 9 t d = wgtAt m c (base t) := by
  rw [Dat.before_out_traj (dats m 0 c) 9 rfl (fun _ _ => rfl) (fun t hz _ hf => ?_) t.val t rfl d, fresh9 t.val (Nat.le_of_lt t.isLt),
    decide_eq_false h, if_neg Bool.false_ne_true, after9, base_pred t h]
  rw [fresh9 t.val (Nat.le_of_lt t.isLt)] at hf
  rw [after9, after9, base_pred t (of_decide_eq_false hf)]

/-- The row block's tail contents are what the body must leave in tail window 9, whether or not it is written back. -/
theorem leaves9 (c : Dev nD) (t : Fin cfg0.N) :
    owns (c : Thread nD τ) (st0_9 t) fullShare (wgtAt m c (base t)) ⊢ ((dats m 0 c).leavesExact 9 t : sProp 𝕄) := by
  unfold Dat.leavesExact
  rw [after9]
  cases hi : cfg0.idle 9 (cfg0.grid.coords t) with
  | false => exact .rfl
  | true =>
    cases hf : (cfg0.win 9).flush t with
    | true => exact .rfl
    | false =>
      iintro H; iexists wgtAt m c (base t)
      rw [before9 m c t ((idle9 t).mp hi)]
      iexact H

/-- A window that is written at a point is left at the proof data's contents. -/
theorem leaves_live (c : Dev nD) (w : Fin cfg0.W) (t : Fin cfg0.N) (h : cfg0.idle w (grid0.coords t) = false) :
    ((dats m 0 c).leavesExact w t : sProp 𝕄) = owns (c : Thread nD τ) ((cfg0.win w).stage (cfg0.slots t w)) fullShare ((dats m 0 c).after w t) := by
  unfold Dat.leavesExact; rw [show cfg0.idle w (cfg0.grid.coords t) = false from h]

/-! ## The invariant at a point -/

theorem Phi_succ (c : Dev nD) (t : Fin cfg0.N) :
    (dats m 0 c).Φ t.succ = iprop(owns (c : Thread nD τ) scM fullShare (rowsAt m c (base t)) ∗ (∃ r, prngReg c r)) := rfl

theorem Phi_castSucc (c : Dev nD) (t : Fin cfg0.N) : (dats m 0 c).Φ t.castSucc = Phi m c t.val (Nat.le_of_lt t.isLt) := by
  dsimp only [dats]; exact Pipeline.Dat.Φ_castSucc (Phi m c) t

/-- Before a later point of a row block the scratch holds the block's rows. -/
theorem Phi_later (c : Dev nD) (t : Fin cfg0.N) (h : t.val % 9 ≠ 0) :
    (dats m 0 c).Φ t.castSucc = iprop(owns (c : Thread nD τ) scM fullShare (rowsAt m c (base t)) ∗ (∃ r, prngReg c r)) := by
  rw [Phi_castSucc]
  rw [← base_pred t h (by omega)]
  obtain ⟨n, hn⟩ := t
  cases n with
  | zero => exact absurd rfl h
  | succ n => rfl

/-- At any position the scratch is held at some contents. -/
theorem Phi_any (c : Dev nD) (n : ℕ) (h : n ≤ cfg0.N) : Phi m c n h ⊢ (Pipeline.ΦA spec0 c : sProp 𝕄) := by
  cases n with
  | zero => exact .rfl
  | succ n =>
    rw [start_eq]
    unfold Phi
    iintro ⟨HS, Hg⟩
    isplitl [HS]
    · iexists _; iexact HS
    iexact Hg

/-- After the last point the scratch is held at some contents. -/
theorem hout (c : Dev nD) : (dats m 0 c).Φ (Fin.last cfg0.N) ⊢ (Pipeline.ΦA spec0 c : sProp 𝕄) := by
  rw [show (dats m 0 c).Φ (Fin.last cfg0.N) = Phi m c cfg0.N le_rfl from rfl]
  exact Phi_any m c _ _

/-! ## The body obligation -/

/-- What the body is called with at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl]
  rw [leaves_live m c 0 t rfl, after0]
  rw [leaves_live m c 1 t rfl, after1]
  rw [leaves_live m c 2 t rfl, after2]
  rw [leaves_live m c 3 t rfl, after3]
  rw [leaves_live m c 4 t rfl, after4]
  rw [leaves_live m c 5 t rfl, after5]
  rw [leaves_live m c 6 t rfl, after6]
  rw [leaves_live m c 7 t (live7 t), after7, Phi_succ]
  by_cases h : t.val % 9 = 0
  · have hl8 := leaves8 m c t
    have hl9 := leaves9 m c t
    have hP : (dats m 0 c).Φ t.castSucc ⊢ (iprop((∃ d, owns (c : Thread nD τ) scM fullShare d) ∗ (∃ r, prngReg c r)) : sProp 𝕄) := by
      rw [Phi_castSucc, ← start_eq]; exact Phi_any m c _ _
    rw [base_first t h] at hl8 hl9 ⊢
    unfold keyAt at hl8
    unfold wgtAt at hl9
    unfold rowsAt
    iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    ihave HQ := hP $$ HP
    icases HQ with ⟨HS, Hg⟩
    iapply (run_first c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) ((cond1_iff t).mpr h) (cond23 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS]; · iexact HS
    iintro ⟨H0, H1, H2, H3, H4, H5, H6, H7, H8, H9, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iapply hl8; iexact H8
    iapply hl9; iexact H9
  · rw [Phi_later m c t h]
    simp only [before8 m c t h, before9 m c t h]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_later c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (fun h1 => h ((cond1_iff t).mp h1)) (cond23 t) (rowsAt m c (base t)) (keyAt m c (base t)) (wgtAt m c (base t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    isplitl [HS]; · iexact HS
    iintro ⟨H0, H1, H2, H3, H4, H5, H6, H7, H8, H9, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iapply (leaves8 m c t); iexact H8
    iapply (leaves9 m c t); iexact H9

/-- The body table's row at a point is the body. -/
theorem defs_row (t : Fin cfg0.N) : defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

/-! ## The run -/

set_option backward.isDefEq.respectTransparency.types false in
/-- The whole program runs; every array ends at what the proof data say, every other buffer as found, every counter at
    zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := fun c => .rfl)
    (hout := hout m)

/-- The run without the counters. -/
theorem run_main : θ_run defs (onTc (τ := τ) (main (F := F))) (s₀ m ρ) (Pipeline.FramePost cfgs (dats m) 0 (V m)) :=
  (θ_run defs _ _).mono (fun _ h => h.1) (run_quiescent m ρ)

/-- The frame: the arguments end unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) (run_main m ρ)) ((θ_run defs _ _).mono (fun _ h => h.2) (run_quiescent m ρ))

end Cert.KernelInIdeal.Hand

end
-- ==== Proof.InBlocks.lean ====
module

public import proofs.«01_k».proof.Proof.InFrame
public import Idealize.ShloMosaic.Lib.Pipeline.ValueKit
public import Idealize.ShloMosaic.Lib.Pointwise

/-!
# The input projection's blocks

Each entry of a block the body is given, as an entry of the argument it comes from. The weights of the nine segments
are columns 0–5119 and 5200–9295 of the projection's weights; the tail block holds columns 5120–5183 twice, then columns
5184–5199, then zeros.
-/

@[expose] public section

set_option maxRecDepth 16384

noncomputable section

open Idealize.ShloMosaic Idealize.ShloMosaic.TcCoe Idealize.SL.Sem
open Idealize.ShloMosaic.Pipeline (Dat)

namespace Cert.KernelInIdeal.Hand

open Cert.KernelInIdeal Cert.KernelInIdeal.Gen

variable (m : (ℓ : Loc nD τ sig) → Buf (Elt Ideal) ℓ)

/-- The segment of point `t`: the segments of a row block are taken upwards in even row blocks and downwards in odd ones. -/
def sg (t : ℕ) : ℕ := if t / 9 % 2 = 0 then t % 9 else 8 - t % 9

theorem sg_lt (t : ℕ) : sg t < 9 := by unfold sg; split <;> omega

/-- Where each window's block lies at each of the 144 points: row block `t / 9`, segment `sg t`. -/
theorem idx : ∀ t : Fin cfg0.N, win0_0.index t = ![t.val / 9, 0] ∧ win0_1.index t = ![t.val / 18, 0, 0] ∧ win0_2.index t = ![0, 0]
    ∧ win0_3.index t = ![sg t.val, 0] ∧ win0_4.index t = ![0, 0] ∧ win0_5.index t = ![sg t.val, 0, 0]
    ∧ win0_6.index t = ![0, 0] ∧ win0_7.index t = ![sg t.val, t.val / 9, 0] ∧ win0_8.index t = ![t.val / 9, 0]
    ∧ win0_9.index t = ![t.val / 9, 0] :=
  (by decide +kernel : ∀ t : Fin grid0.N, _)

/-- The input as the kernel is given it: row `r` is row `r % 2048` of example `r / 2048`. -/
theorem entry_x (c : Dev nD) (i : S16384x2048.Idx) (j : S8x2048x2048.Idx) (h0 : (j 0 : ℕ) = i 0 / 2048)
    (h1 : (j 1 : ℕ) = i 0 % 2048) (h2 : (j 2 : ℕ) = i 1) :
    V m c main_v0 i = m ((c : Thread nD τ).loc main_arg0) j := by
  entry_read
  pointwise
  blk_ext

/-- The modulation as the kernel is given it: three stretches of 2048. -/
theorem entry_mod (c : Dev nD) (i : S8x3x2048.Idx) (j : S8x6144.Idx) (h0 : (j 0 : ℕ) = i 0)
    (h1 : (j 1 : ℕ) = i 1 * 2048 + i 2) :
    V m c main_v1 i = m ((c : Thread nD τ).loc main_arg1) j := by
  entry_read
  pointwise
  blk_ext

/-- The row norm's gain as the kernel is given it. -/
theorem entry_g (c : Dev nD) (i : S1x2048.Idx) (j : S2048.Idx) (h0 : (j 0 : ℕ) = i 1) :
    V m c main_v30 i = m ((c : Thread nD τ).loc main_arg2) j := by
  entry_read
  pointwise
  blk_ext

/-- The segments' weights as the kernel is given them. -/
theorem entry_w (c : Dev nD) (i : S9216x2048.Idx) (j : S2048x9296.Idx) (h0 : (j 0 : ℕ) = i 1)
    (h1 : (j 1 : ℕ) = if (i 0 : ℕ) < 5120 then (i 0 : ℕ) else i 0 + 80) :
    V m c main_v6 i = m ((c : Thread nD τ).loc main_arg3) j := by
  entry_read
  pointwise
  by_cases h : (i 0 : ℕ) < 5120 <;> simp only [h, if_true, if_false] at h1 <;> simp only [h, dite_true, dite_false, if_true, if_false] <;> blk_ext

/-- Four stretches of rows joined. -/
abbrev joinTail (a b : FVec Ideal S64x2048 .f32) (d : FVec Ideal S16x2048 .f32) (z : FVec Ideal S112x2048 .f32) : FVec Ideal S256x2048 .bf16 :=
  truncf .bf16 (concatenate S256x2048 0 [⟨S64x2048, a⟩, ⟨S64x2048, b⟩, ⟨S16x2048, d⟩, ⟨S112x2048, z⟩]
    concatenates_S64x2048_S64x2048_S16x2048_S112x2048_S256x2048_d0) bitsLt_bf16_f32

/-- Nine rows joined. -/
abbrev joinGain (g0 g1 g2 g3 g4 g5 g6 g7 g8 : FVec Ideal S1x128 .f32) : FVec Ideal S9x1x128 .f32 :=
  shapeCast S9x1x128 (concatenate S9x128 0 [⟨S1x128, g0⟩, ⟨S1x128, g1⟩, ⟨S1x128, g2⟩, ⟨S1x128, g3⟩, ⟨S1x128, g4⟩, ⟨S1x128, g5⟩, ⟨S1x128, g6⟩, ⟨S1x128, g7⟩, ⟨S1x128, g8⟩]
    concatenates_S1x128_S1x128_S1x128_S1x128_S1x128_S1x128_S1x128_S1x128_S1x128_S9x128_d0) shapeCasts_S9x128_S9x1x128

set_option maxHeartbeats 1000000 in
/-- The tail's weights are joined of three stretches of the projection's weights and a stretch of zeros. -/
theorem V_tail (c : Dev nD) : V m c main_v11 = joinTail (V m c main_v7) (V m c main_v7) (V m c main_v8) (V m c main_v9) := by
  unfold V
  simp only [StableHlo.after_cons, StableHlo.after_nil]
  after_results_simp <;> (try dsimp only [Matrix.cons_val]) <;> (try after_results_simp) <;> rfl

set_option maxHeartbeats 1000000 in
/-- The gains are joined of nine rows. -/
theorem V_gain (c : Dev nD) : V m c main_v27 = joinGain (V m c main_v17) (V m c main_v18) (V m c main_v19) (V m c main_v20) (V m c main_v21) (V m c main_v22) (V m c main_v23) (V m c main_v24) (V m c main_v25) := by
  unfold V
  simp only [StableHlo.after_cons, StableHlo.after_nil]
  after_results_simp <;> (try dsimp only [Matrix.cons_val]) <;> (try after_results_simp) <;> rfl

/-- An entry of the joined tail. -/
theorem joinTail_apply (a b : FVec Ideal S64x2048 .f32) (d : FVec Ideal S16x2048 .f32) (z : FVec Ideal S112x2048 .f32) (i : S256x2048.Idx) :
    (show EReal from joinTail a b d z i) = if h : (i 0 : ℕ) < 64 then a (ix2 ⟨(i 0 : ℕ), h⟩ (i 1))
      else if h' : (i 0 : ℕ) - 64 < 64 then b (ix2 ⟨(i 0 : ℕ) - 64, h'⟩ (i 1))
      else if h'' : (i 0 : ℕ) - 64 - 64 < 16 then d (ix2 ⟨(i 0 : ℕ) - 64 - 64, h''⟩ (i 1))
      else z (ix2 ⟨(i 0 : ℕ) - 64 - 64 - 16, by have h : (i 0 : ℕ) < 256 := (i 0).isLt; omega⟩ (i 1)) := by
  pointwise [joinTail]

/-- The tail's weights as the kernel is given them: columns 5120 to 5183 twice, then columns 5184 to 5199. -/
theorem entry_t (c : Dev nD) (i : S256x2048.Idx) (j : S2048x9296.Idx) (h : (i 0 : ℕ) < 144) (h0 : (j 0 : ℕ) = i 1)
    (h1 : (j 1 : ℕ) = if (i 0 : ℕ) < 64 then 5120 + (i 0 : ℕ) else 5056 + (i 0 : ℕ)) :
    V m c main_v11 i = m ((c : Thread nD τ).loc main_arg3) j := by
  rw [V_tail]
  refine (joinTail_apply _ _ _ _ i).trans ?_
  split_ifs at h1 ⊢
  all_goals first
    | (exfalso; omega)
    | (entry_read; pointwise; blk_ext)

/-- The tail's last rows are zero. -/
theorem entry_t0 (c : Dev nD) (i : S256x2048.Idx) (h : 144 ≤ (i 0 : ℕ)) :
    (show EReal from V m c main_v11 i) = 0 := by
  rw [V_tail]
  refine (joinTail_apply _ _ _ _ i).trans ?_
  rw [dif_neg (by omega), dif_neg (by omega), dif_neg (by omega)]
  entry_read
  pointwise

/-- Row 0 of the joined gains. -/
theorem joinGain_0 (g0 g1 g2 g3 g4 g5 g6 g7 g8 : FVec Ideal S1x128 .f32) (i : S9x1x128.Idx) (h : (i 0 : ℕ) = 0) :
    (show EReal from joinGain g0 g1 g2 g3 g4 g5 g6 g7 g8 i) = g0 (ix2 0 (i 2)) := by
  pointwise [joinGain]
  split_ifs <;> first | (exfalso; omega) | blk_ext

/-- The gain of the sparse queries' norm as the kernel is given it, times the attention's scale. -/
theorem entry_gain0 (c : Dev nD) (i : S9x1x128.Idx) (j : S128.Idx) (h : (i 0 : ℕ) = 0) (h0 : (j 0 : ℕ) = i 2) :
    (show EReal from V m c main_v27 i) = (show EReal from m ((c : Thread nD τ).loc main_arg4) j) * Ideal.ofBits FTy.f32 0x3DB504F3#32 := by
  rw [V_gain]
  refine (joinGain_0 _ _ _ _ _ _ _ _ _ i h).trans ?_
  entry_read
  pointwise
  refine congrArg (fun a : EReal => a * _) ?_
  blk_ext

/-- Row 1 of the joined gains. -/
theorem joinGain_1 (g0 g1 g2 g3 g4 g5 g6 g7 g8 : FVec Ideal S1x128 .f32) (i : S9x1x128.Idx) (h : (i 0 : ℕ) = 1) :
    (show EReal from joinGain g0 g1 g2 g3 g4 g5 g6 g7 g8 i) = g1 (ix2 0 (i 2)) := by
  pointwise [joinGain]
  split_ifs <;> first | (exfalso; omega) | blk_ext

/-- The gain of the sparse keys' norm as the kernel is given it. -/
theorem entry_gain1 (c : Dev nD) (i : S9x1x128.Idx) (j : S128.Idx) (h : (i 0 : ℕ) = 1) (h0 : (j 0 : ℕ) = i 2) :
    (show EReal from V m c main_v27 i) = (show EReal from m ((c : Thread nD τ).loc main_arg5) j) := by
  rw [V_gain]
  refine (joinGain_1 _ _ _ _ _ _ _ _ _ i h).trans ?_
  entry_read
  pointwise
  blk_ext

/-- Row 5 of the joined gains. -/
theorem joinGain_5 (g0 g1 g2 g3 g4 g5 g6 g7 g8 : FVec Ideal S1x128 .f32) (i : S9x1x128.Idx) (h : (i 0 : ℕ) = 5) :
    (show EReal from joinGain g0 g1 g2 g3 g4 g5 g6 g7 g8 i) = g5 (ix2 0 (i 2)) := by
  pointwise [joinGain]
  split_ifs <;> first | (exfalso; omega) | blk_ext

/-- The gain of the block-routed queries' norm as the kernel is given it, times the attention's scale. -/
theorem entry_gain5 (c : Dev nD) (i : S9x1x128.Idx) (j : S128.Idx) (h : (i 0 : ℕ) = 5) (h0 : (j 0 : ℕ) = i 2) :
    (show EReal from V m c main_v27 i) = (show EReal from m ((c : Thread nD τ).loc main_arg7) j) * Ideal.ofBits FTy.f32 0x3DB504F3#32 := by
  rw [V_gain]
  refine (joinGain_5 _ _ _ _ _ _ _ _ _ i h).trans ?_
  entry_read
  pointwise
  refine congrArg (fun a : EReal => a * _) ?_
  blk_ext

/-- Row 6 of the joined gains. -/
theorem joinGain_6 (g0 g1 g2 g3 g4 g5 g6 g7 g8 : FVec Ideal S1x128 .f32) (i : S9x1x128.Idx) (h : (i 0 : ℕ) = 6) :
    (show EReal from joinGain g0 g1 g2 g3 g4 g5 g6 g7 g8 i) = g6 (ix2 0 (i 2)) := by
  pointwise [joinGain]
  split_ifs <;> first | (exfalso; omega) | blk_ext

/-- The gain of the block-routed keys' norm as the kernel is given it. -/
theorem entry_gain6 (c : Dev nD) (i : S9x1x128.Idx) (j : S128.Idx) (h : (i 0 : ℕ) = 6) (h0 : (j 0 : ℕ) = i 2) :
    (show EReal from V m c main_v27 i) = (show EReal from m ((c : Thread nD τ).loc main_arg8) j) := by
  rw [V_gain]
  refine (joinGain_6 _ _ _ _ _ _ _ _ _ i h).trans ?_
  entry_read
  pointwise
  blk_ext

/-- The key norm's gain as the kernel is given it: twice. -/
theorem entry_gk (c : Dev nD) (i : S1x128.Idx) (j : S64.Idx) (h0 : (j 0 : ℕ) = (i 1 : ℕ) % 64) :
    V m c main_v29 i = m ((c : Thread nD τ).loc main_arg6) j := by
  entry_read
  pointwise
  have hi : (i 1 : ℕ) < 128 := (i 1).isLt
  by_cases h : (i 1 : ℕ) < 64 <;> simp only [h, dite_true, dite_false, if_true, if_false] <;> blk_ext

/-! One entry of each window's block at point `t`, as an entry of the argument it comes from. -/

theorem blk0 (c : Dev nD) (t : Fin cfg0.N) (i : S1024x2048.Idx) (j : S8x2048x2048.Idx) (h0 : (j 0 : ℕ) = (t.val / 9 * 1024 + (i 0 : ℕ)) / 2048)
    (h1 : (j 1 : ℕ) = (t.val / 9 * 1024 + (i 0 : ℕ)) % 2048) (h2 : (j 2 : ℕ) = i 1) :
    iblk m c 0 t i = m ((c : Thread nD τ).loc main_arg0) j := by
  refine entry_x m c (((cfg0.win 0).blk t).view.emb i) j ?_ ?_ ?_ <;> blk_simp [idx t] <;> omega

theorem blk1 (c : Dev nD) (t : Fin cfg0.N) (i : S1x3x2048.Idx) (j : S8x6144.Idx) (h0 : (j 0 : ℕ) = t.val / 18)
    (h1 : (j 1 : ℕ) = (i 1 : ℕ) * 2048 + i 2) : iblk m c 1 t i = m ((c : Thread nD τ).loc main_arg1) j := by
  refine entry_mod m c (((cfg0.win 1).blk t).view.emb i) j ?_ ?_ <;> blk_simp [idx t] <;> omega

theorem blk2 (c : Dev nD) (t : Fin cfg0.N) (i : S1x2048.Idx) (j : S2048.Idx) (h0 : (j 0 : ℕ) = i 1) :
    iblk m c 2 t i = m ((c : Thread nD τ).loc main_arg2) j := by
  refine entry_g m c (((cfg0.win 2).blk t).view.emb i) j ?_ <;> blk_simp [idx t] <;> omega

/-- The column of the projection's weights where row `n` of the segments' weights comes from. -/
def wcol (n : ℕ) : ℕ := if n < 5120 then n else n + 80

theorem blk3 (c : Dev nD) (t : Fin cfg0.N) (i : S1024x2048.Idx) (j : S2048x9296.Idx) (h0 : (j 0 : ℕ) = i 1)
    (h1 : (j 1 : ℕ) = wcol (sg t.val * 1024 + (i 0 : ℕ))) : iblk m c 3 t i = m ((c : Thread nD τ).loc main_arg3) j := by
  unfold wcol at h1
  refine entry_w m c (((cfg0.win 3).blk t).view.emb i) j ?_ ?_ <;> blk_simp [idx t] <;> omega

theorem blk4 (c : Dev nD) (t : Fin cfg0.N) (i : S256x2048.Idx) (j : S2048x9296.Idx) (h : (i 0 : ℕ) < 144) (h0 : (j 0 : ℕ) = i 1)
    (h1 : (j 1 : ℕ) = if (i 0 : ℕ) < 64 then 5120 + (i 0 : ℕ) else 5056 + (i 0 : ℕ)) :
    iblk m c 4 t i = m ((c : Thread nD τ).loc main_arg3) j := by
  refine entry_t m c (((cfg0.win 4).blk t).view.emb i) j ?_ ?_ ?_ <;> blk_simp [idx t] <;> omega

theorem blk4_zero (c : Dev nD) (t : Fin cfg0.N) (i : S256x2048.Idx) (h : 144 ≤ (i 0 : ℕ)) : (show EReal from iblk m c 4 t i) = 0 := by
  refine entry_t0 m c (((cfg0.win 4).blk t).view.emb i) ?_ <;> blk_simp [idx t] <;> omega

theorem blk5_0 (c : Dev nD) (t : Fin cfg0.N) (ht : sg t.val = 0) (i : S1x1x128.Idx) (j : S128.Idx) (h0 : (j 0 : ℕ) = i 2) :
    (show EReal from iblk m c 5 t i) = (show EReal from m ((c : Thread nD τ).loc main_arg4) j) * Ideal.ofBits FTy.f32 0x3DB504F3#32 := by
  refine entry_gain0 m c (((cfg0.win 5).blk t).view.emb i) j ?_ ?_ <;> blk_simp [idx t] <;> omega

theorem blk5_1 (c : Dev nD) (t : Fin cfg0.N) (ht : sg t.val = 1) (i : S1x1x128.Idx) (j : S128.Idx) (h0 : (j 0 : ℕ) = i 2) :
    (show EReal from iblk m c 5 t i) = (show EReal from m ((c : Thread nD τ).loc main_arg5) j) := by
  refine entry_gain1 m c (((cfg0.win 5).blk t).view.emb i) j ?_ ?_ <;> blk_simp [idx t] <;> omega

theorem blk5_5 (c : Dev nD) (t : Fin cfg0.N) (ht : sg t.val = 5) (i : S1x1x128.Idx) (j : S128.Idx) (h0 : (j 0 : ℕ) = i 2) :
    (show EReal from iblk m c 5 t i) = (show EReal from m ((c : Thread nD τ).loc main_arg7) j) * Ideal.ofBits FTy.f32 0x3DB504F3#32 := by
  refine entry_gain5 m c (((cfg0.win 5).blk t).view.emb i) j ?_ ?_ <;> blk_simp [idx t] <;> omega

theorem blk5_6 (c : Dev nD) (t : Fin cfg0.N) (ht : sg t.val = 6) (i : S1x1x128.Idx) (j : S128.Idx) (h0 : (j 0 : ℕ) = i 2) :
    (show EReal from iblk m c 5 t i) = (show EReal from m ((c : Thread nD τ).loc main_arg8) j) := by
  refine entry_gain6 m c (((cfg0.win 5).blk t).view.emb i) j ?_ ?_ <;> blk_simp [idx t] <;> omega

theorem blk6 (c : Dev nD) (t : Fin cfg0.N) (i : S1x128.Idx) (j : S64.Idx) (h0 : (j 0 : ℕ) = (i 1 : ℕ) % 64) :
    iblk m c 6 t i = m ((c : Thread nD τ).loc main_arg6) j := by
  refine entry_gk m c (((cfg0.win 6).blk t).view.emb i) j ?_ <;> blk_simp [idx t] <;> omega

end Cert.KernelInIdeal.Hand

end
-- ==== Proof.InRows.lean ====
module

public import proofs.«01_k».proof.Proof.InBlocks
public import proofs.«01_k».proof.Proof.Gen.ReferenceInIdeal.Read

/-!
# The projection's modulated rows and products

The rows the kernel keeps are the reference's: the two differ in where the product with `1 + scale` is taken. A row times
a row of a block's weights is then the reference's product at the column the block's row comes from.
-/

@[expose] public section

set_option maxRecDepth 16384

noncomputable section

open Idealize.ShloMosaic Idealize.ShloMosaic.TcCoe Idealize.SL.Sem
open Idealize.ShloMosaic.Pipeline (Dat)

namespace Cert.KernelInIdeal.Hand

open Cert.KernelInIdeal Cert.KernelInIdeal.Gen

variable (m : (ℓ : Loc nD τ sig) → Buf (Elt Ideal) ℓ)

/-- The reference's modulated rows. -/
abbrev hRef (c : Dev nD) : FVec Ideal S8x2048x2048 .f32 :=
  Cert.ReferenceInIdeal.Read.val_main_v23 (F := Ideal) (m ((c : Thread nD τ).loc main_arg0)) (m ((c : Thread nD τ).loc main_arg1)) (m ((c : Thread nD τ).loc main_arg2))

/-- The reference's product of the modulated rows with the projection's weights. -/
abbrev pRef (c : Dev nD) : FVec Ideal Cert.ReferenceInIdeal.S8x2048x9296 .f32 :=
  Cert.ReferenceInIdeal.Read.val_main_v24 (F := Ideal) (m ((c : Thread nD τ).loc main_arg0)) (m ((c : Thread nD τ).loc main_arg1)) (m ((c : Thread nD τ).loc main_arg2)) (m ((c : Thread nD τ).loc main_arg3))

/-- The rows a row block's first point computes, before they are stored. -/
abbrev hRows (c : Dev nD) (t : Fin cfg0.N) : FVec Ideal S1024x2048 .bf16 :=
  k0_pay10 (View.ld (iblk m c 0 t) rX) (View.ld (iblk m c 1 t) rM0) (View.ld (iblk m c 2 t) rG) (View.ld (iblk m c 1 t) rM1)

set_option maxHeartbeats 400000 in
/-- Row `r` the kernel computes is the reference's row of the block's first row plus `r`. -/
theorem hRows_apply (c : Dev nD) (t : Fin cfg0.N) (r : Fin 1024) (k : Fin 2048) (j : S8x2048x2048.Idx)
    (h0 : (j 0 : ℕ) = (t.val / 9 * 1024 + (r : ℕ)) / 2048) (h1 : (j 1 : ℕ) = (t.val / 9 * 1024 + (r : ℕ)) % 2048) (h2 : (j 2 : ℕ) = k) :
    (show EReal from hRows m c t (ix2 r k)) = hRef m c j := by
  pointwise [hRows, k0_pay10, hRef, Cert.ReferenceInIdeal.Read.val_main_v0, Cert.ReferenceInIdeal.Read.val_main_v1, Cert.ReferenceInIdeal.Read.val_main_v3, Cert.ReferenceInIdeal.Read.val_main_v4, Cert.ReferenceInIdeal.Read.val_main_v5, Cert.ReferenceInIdeal.Read.val_main_v6, Cert.ReferenceInIdeal.Read.val_main_v7, Cert.ReferenceInIdeal.Read.val_main_v8, Cert.ReferenceInIdeal.Read.val_main_v9, Cert.ReferenceInIdeal.Read.val_main_v10, Cert.ReferenceInIdeal.Read.val_main_v11, Cert.ReferenceInIdeal.Read.val_main_v12, Cert.ReferenceInIdeal.Read.val_main_v13, Cert.ReferenceInIdeal.Read.val_main_v14, Cert.ReferenceInIdeal.Read.val_main_v15, Cert.ReferenceInIdeal.Read.val_main_v16, Cert.ReferenceInIdeal.Read.val_main_v17, Cert.ReferenceInIdeal.Read.val_main_v18, Cert.ReferenceInIdeal.Read.val_main_v19, Cert.ReferenceInIdeal.Read.val_main_v20, Cert.ReferenceInIdeal.Read.val_main_v21, Cert.ReferenceInIdeal.Read.val_main_v22, Cert.ReferenceInIdeal.Read.val_main_v23, Cert.ReferenceInIdeal.Read.val_main_cst, Cert.ReferenceInIdeal.Read.val_main_cst_0, Cert.ReferenceInIdeal.Read.val_main_cst_1, Cert.ReferenceInIdeal.Read.val_main_cst_2]
  have ex (x : Fin 2048) (q : S8x2048x2048.Idx) (hq0 : (q 0 : ℕ) = j 0) (hq1 : (q 1 : ℕ) = j 1) (hq2 : (q 2 : ℕ) = x) :
      iblk m c 0 t (ix2 r x) = m ((c : Thread nD τ).loc main_arg0) q :=
    blk0 m c t _ _ (hq0.trans h0) (hq1.trans h1) hq2
  refine (congrArg₂ (fun a b : EReal => a + b)
    (congrArg₂ (fun a b : EReal => a * b)
      (congrArg₂ (fun a b : EReal => a * b) (ex k j rfl rfl h2)
        (congrArg (fun a : EReal => Ideal.rsqrt (Ideal.div a _ + _))
          (Finset.sum_congr rfl fun x _ => congrArg₂ (fun a b : EReal => a * b)
            (ex x (ix3 (j 0) (j 1) x) rfl rfl rfl) (ex x (ix3 (j 0) (j 1) x) rfl rfl rfl))))
      (congrArg₂ (fun a b : EReal => a * b) (blk2 m c t (ix2 0 k) (ix1 (j 2)) ?_)
        (congrArg (fun a : EReal => 1 + a) (blk1 m c t (ix3 0 1 k) (ix2 (j 0) ⟨2048 + (j 2 : ℕ), ?_⟩) ?_ ?_))))
    (blk1 m c t (ix3 0 0 k) (ix2 (j 0) ⟨(j 2 : ℕ), ?_⟩) ?_ ?_)).trans
    (congrArg (fun a : EReal => a + _) (mul_assoc _ _ _).symm)
  all_goals ((try blk_simp) <;> (try dsimp only) <;> omega)

/-- The scratch holds the computed rows. -/
theorem rowsAt_eq (c : Dev nD) (t : Fin cfg0.N) : rowsAt m c t = hRows m c t := by
  unfold rowsAt rows
  rw [View.canon_unit_zero (by decide)]
  funext i
  pointwise [k0_pay11]
  rfl

theorem base_div (t : Fin cfg0.N) : (base t).val / 9 = t.val / 9 := Nat.mul_div_cancel _ (by norm_num)

/-- A kept row times row `n` of a segment's weights. -/
theorem dot_seg (c : Dev nD) (t : Fin cfg0.N) (r n : Fin 1024) (j : Cert.ReferenceInIdeal.S8x2048x9296.Idx)
    (h0 : (j 0 : ℕ) = (t.val / 9 * 1024 + (r : ℕ)) / 2048) (h1 : (j 1 : ℕ) = (t.val / 9 * 1024 + (r : ℕ)) % 2048)
    (h2 : (j 2 : ℕ) = wcol (sg t.val * 1024 + (n : ℕ))) :
    (∑ k : Fin 2048, (show EReal from rowsAt m c (base t) (ix2 r k)) * (show EReal from iblk m c 3 t (ix2 n k))) = pRef m c j := by
  refine Eq.trans ?_ (Cert.ReferenceInIdeal.Read.val_main_v24_apply _ _ _ _ j).symm
  refine Finset.sum_congr rfl fun k _ => congrArg₂ (fun a b : EReal => a * b) ?_ (blk3 m c t _ _ rfl h2)
  rw [rowsAt_eq]
  exact hRows_apply m c (base t) r k _ (by rw [base_div]; exact h0) (by rw [base_div]; exact h1) rfl

/-- A computed row times row `n` of the tail's weights. -/
theorem dot_tail (c : Dev nD) (t : Fin cfg0.N) (r : Fin 1024) (n : Fin 256) (j : Cert.ReferenceInIdeal.S8x2048x9296.Idx)
    (h0 : (j 0 : ℕ) = (t.val / 9 * 1024 + (r : ℕ)) / 2048) (h1 : (j 1 : ℕ) = (t.val / 9 * 1024 + (r : ℕ)) % 2048)
    (hn : (n : ℕ) < 144) (h2 : (j 2 : ℕ) = if (n : ℕ) < 64 then 5120 + (n : ℕ) else 5056 + (n : ℕ)) :
    (∑ k : Fin 2048, (show EReal from hRows m c t (ix2 r k)) * (show EReal from iblk m c 4 t (ix2 n k))) = pRef m c j := by
  refine Eq.trans ?_ (Cert.ReferenceInIdeal.Read.val_main_v24_apply _ _ _ _ j).symm
  exact Finset.sum_congr rfl fun k _ => congrArg₂ (fun a b : EReal => a * b) (hRows_apply m c t r k _ h0 h1 rfl) (blk4 m c t _ _ hn rfl h2)

/-- A computed row times a row past the tail's weights is zero. -/
theorem dot_tail_zero (c : Dev nD) (t : Fin cfg0.N) (r : Fin 1024) (n : Fin 256) (hn : 144 ≤ (n : ℕ)) :
    (∑ k : Fin 2048, (show EReal from hRows m c t (ix2 r k)) * (show EReal from iblk m c 4 t (ix2 n k))) = 0 :=
  Finset.sum_eq_zero fun k _ => (congrArg (fun a : EReal => _ * a) (blk4_zero m c t (ix2 n k) hn)).trans (mul_zero _)

end Cert.KernelInIdeal.Hand

end
-- ==== Proof.InHeads.lean ====
module

public import proofs.«01_k».proof.Proof.InRows

/-!
# What a point stores of its segment

Entry by entry: a segment without norm stores the products, a segment with norm stores them normed over each head's 128
columns and times the gain.
-/

@[expose] public section

set_option maxRecDepth 16384

noncomputable section

open Idealize.ShloMosaic Idealize.ShloMosaic.TcCoe Idealize.SL.Sem
open Idealize.ShloMosaic.Pipeline (Dat)

namespace Cert.KernelInIdeal.Hand

open Cert.KernelInIdeal Cert.KernelInIdeal.Gen

variable (m : (ℓ : Loc nD τ sig) → Buf (Elt Ideal) ℓ)

/-- The product of row `y 1` with column `x` of head `y 0` of a point's segment. -/
abbrev dotAt (c : Dev nD) (t : Fin cfg0.N) (y : S8x1024x128.Idx) (x : Fin 128) : EReal :=
  ∑ k : Fin 2048, (show EReal from rowsAt m c (base t) (ix2 (y 1) k))
    * (show EReal from iblk m c 3 t (ix2 ⟨(y 0 : ℕ) * 128 + (x : ℕ), by have h0 : (y 0 : ℕ) < 8 := (y 0).isLt; omega⟩ k))

set_option maxHeartbeats 400000 in
/-- A segment with norm. -/
theorem norm_apply (c : Dev nD) (t : Fin cfg0.N) (y : S8x1024x128.Idx) :
    (show EReal from normBlk (rowsAt m c (base t)) (iblk m c 3 t) (iblk m c 5 t) y)
      = dotAt m c t y (y 2) * Ideal.rsqrt (Ideal.div (∑ x : Fin 128, dotAt m c t y x * dotAt m c t y x) (Ideal.ofBits FTy.f32 1124073472#32)
          + Ideal.ofBits FTy.f32 897988541#32) * (show EReal from iblk m c 5 t (ix3 0 0 (y 2))) := by
  unfold normBlk
  canon_tiles x h
  all_goals
    pointwise [k0_pay17, k0_pay18, k0_pay19, k0_pay15, k0_pay21, k0_pay22, k0_pay23, k0_pay25, k0_pay26, k0_pay3, k0_pay4, k0_pay27, k0_pay28, k0_pay29, k0_pay16, k0_pay20, k0_pay24]
    refine congrArg₂ (fun a b : EReal => a * b) (congrArg₂ (fun a b : EReal => a * b) ?_
      (congrArg Ideal.rsqrt (congrArg₂ (fun a b : EReal => a + b) (congrArg₂ Ideal.div (Finset.sum_congr rfl fun z _ => congrArg₂ (fun a b : EReal => a * b) ?_ ?_) rfl) rfl)))
      (congrArg (iblk m c 5 t) ?_)
    any_goals refine Finset.sum_congr rfl fun k _ => congrArg₂ (fun a b : EReal => a * b) (congrArg (rowsAt m c (base t)) ?_) (congrArg (iblk m c 3 t) ?_)
    all_goals blk_ext

set_option maxHeartbeats 400000 in
/-- A segment without norm. -/
theorem plain_apply (c : Dev nD) (t : Fin cfg0.N) (y : S8x1024x128.Idx) :
    (show EReal from plainBlk (rowsAt m c (base t)) (iblk m c 3 t) y) = dotAt m c t y (y 2) := by
  unfold plainBlk
  canon_tiles x h
  all_goals
    pointwise [k0_pay5, k0_pay6, k0_pay7, k0_pay8, k0_pay9, k0_pay30, k0_pay31, k0_pay32, k0_pay33, k0_pay34, k0_pay35, k0_pay36, k0_pay37, k0_pay16, k0_pay20, k0_pay24]
    refine Finset.sum_congr rfl fun k _ => congrArg₂ (fun a b : EReal => a * b) (congrArg (rowsAt m c (base t)) ?_) (congrArg (iblk m c 3 t) ?_)
    all_goals blk_ext

/-- The points whose segment is normed: the queries and keys of the two attentions. -/
theorem cond2_iff : ∀ t : Fin cfg0.N, k0_cond2 (grid0.coords t) = 1#1 ↔ (sg t.val = 0 ∨ sg t.val = 1 ∨ sg t.val = 5 ∨ sg t.val = 6) :=
  (by decide +kernel : ∀ t : Fin grid0.N, _)

end Cert.KernelInIdeal.Hand

end
-- ==== Proof.InSegs.lean ====
module

public import proofs.«01_k».proof.Proof.InHeads

/-!
# The reference's segments

For each of the nine segments: what a point stores of it is the reference's array of that segment.
-/

@[expose] public section

set_option maxRecDepth 16384

noncomputable section

open Idealize.ShloMosaic Idealize.ShloMosaic.TcCoe Idealize.SL.Sem
open Idealize.ShloMosaic.Pipeline (Dat)

namespace Cert.KernelInIdeal.Hand

open Cert.KernelInIdeal Cert.KernelInIdeal.Gen

variable (m : (ℓ : Loc nD τ sig) → Buf (Elt Ideal) ℓ)

/-- The product at row `i 1`, head `i 0` and column `x` of the segment that starts at column `o`. -/
abbrev pAt (c : Dev nD) (o : ℕ) (ho : o + 1024 ≤ 9296) (i : Cert.ReferenceInIdeal.S8x16384x128.Idx) (x : Fin 128) : EReal :=
  pRef m c (ix3 ⟨(i 1 : ℕ) / 2048, by have h1 : (i 1 : ℕ) < 16384 := (i 1).isLt; omega⟩
    ⟨(i 1 : ℕ) % 2048, by omega⟩ ⟨o + ((i 0 : ℕ) * 128 + (x : ℕ)), by have h0 : (i 0 : ℕ) < 8 := (i 0).isLt; omega⟩)

/-- A point's product is the reference's. -/
theorem dot_point (c : Dev nD) (t : Fin cfg0.N) (y : S8x1024x128.Idx) (i : Cert.ReferenceInIdeal.S8x16384x128.Idx) (o : ℕ) (ho : o + 1024 ≤ 9296)
    (hs : ∀ n : ℕ, n < 1024 → wcol (sg t.val * 1024 + n) = o + n)
    (h0 : (i 0 : ℕ) = y 0) (h1 : (i 1 : ℕ) = t.val / 9 * 1024 + (y 1 : ℕ)) (x : Fin 128) : dotAt m c t y x = pAt m c o ho i x := by
  have hy : (y 0 : ℕ) < 8 := (y 0).isLt
  refine dot_seg m c t (y 1) ⟨(y 0 : ℕ) * 128 + (x : ℕ), by omega⟩ (ix3 ⟨(i 1 : ℕ) / 2048, by have h1 : (i 1 : ℕ) < 16384 := (i 1).isLt; omega⟩
    ⟨(i 1 : ℕ) % 2048, by omega⟩ ⟨o + ((i 0 : ℕ) * 128 + (x : ℕ)), by omega⟩) ?_ ?_ ?_
  · show (i 1 : ℕ) / 2048 = _
    rw [h1]
  · show (i 1 : ℕ) % 2048 = _
    rw [h1]
  · show o + ((i 0 : ℕ) * 128 + (x : ℕ)) = wcol (sg t.val * 1024 + ((y 0 : ℕ) * 128 + (x : ℕ)))
    rw [hs _ (by omega), h0]

/-- A normed entry is the reference's, up to the gain. -/
theorem norm_point (c : Dev nD) (t : Fin cfg0.N) (y : S8x1024x128.Idx) (i : Cert.ReferenceInIdeal.S8x16384x128.Idx) (o : ℕ) (ho : o + 1024 ≤ 9296)
    (hs : ∀ n : ℕ, n < 1024 → wcol (sg t.val * 1024 + n) = o + n)
    (h0 : (i 0 : ℕ) = y 0) (h1 : (i 1 : ℕ) = t.val / 9 * 1024 + (y 1 : ℕ)) (h2 : (i 2 : ℕ) = y 2) (g : EReal)
    (hg : (show EReal from iblk m c 5 t (ix3 0 0 (y 2))) = g) :
    (show EReal from normBlk (rowsAt m c (base t)) (iblk m c 3 t) (iblk m c 5 t) y)
      = pAt m c o ho i (i 2) * Ideal.rsqrt (Ideal.div (∑ x : Fin 128, pAt m c o ho i x * pAt m c o ho i x) (Ideal.ofBits FTy.f32 1124073472#32)
          + Ideal.ofBits FTy.f32 897988541#32) * g := by
  rw [norm_apply, hg]
  rw [show (y 2 : Fin 128) = i 2 from Fin.ext h2.symm, dot_point m c t y i o ho hs h0 h1 (i 2)]
  simp only [dot_point m c t y i o ho hs h0 h1]

set_option maxHeartbeats 400000 in
/-- The reference's segment 0, the queries of the block selection. -/
theorem ref_0 (c : Dev nD) (i : Cert.ReferenceInIdeal.S8x16384x128.Idx) :
    (show EReal from Cert.ReferenceInIdeal.Read.val_main_v115 (F := Ideal) (m ((c : Thread nD τ).loc main_arg0)) (m ((c : Thread nD τ).loc main_arg1)) (m ((c : Thread nD τ).loc main_arg2)) (m ((c : Thread nD τ).loc main_arg3)) (m ((c : Thread nD τ).loc main_arg4)) i)
      = pAt m c 0 (by norm_num) i (i 2) * Ideal.rsqrt (Ideal.div (∑ x : Fin 128, pAt m c 0 (by norm_num) i x * pAt m c 0 (by norm_num) i x) (Ideal.ofBits FTy.f32 1124073472#32)
          + Ideal.ofBits FTy.f32 897988541#32) * (show EReal from m ((c : Thread nD τ).loc main_arg4) (ix1 (i 2))) * Ideal.ofBits FTy.f32 1035273459#32 := by
  pointwise [Cert.ReferenceInIdeal.Read.val_main_v115, Cert.ReferenceInIdeal.Read.val_main_v114, Cert.ReferenceInIdeal.Read.val_main_v36, Cert.ReferenceInIdeal.Read.val_main_v37, Cert.ReferenceInIdeal.Read.val_main_v38, Cert.ReferenceInIdeal.Read.val_main_v39, Cert.ReferenceInIdeal.Read.val_main_v40, Cert.ReferenceInIdeal.Read.val_main_v41, Cert.ReferenceInIdeal.Read.val_main_v42, Cert.ReferenceInIdeal.Read.val_main_v43, Cert.ReferenceInIdeal.Read.val_main_v44, Cert.ReferenceInIdeal.Read.val_main_v45, Cert.ReferenceInIdeal.Read.val_main_v46, Cert.ReferenceInIdeal.Read.val_main_v47, Cert.ReferenceInIdeal.Read.val_main_v48, Cert.ReferenceInIdeal.Read.val_main_v49, Cert.ReferenceInIdeal.Read.val_main_v50, Cert.ReferenceInIdeal.Read.val_main_v51, Cert.ReferenceInIdeal.Read.val_main_v25, Cert.ReferenceInIdeal.Read.val_main_cst_3, Cert.ReferenceInIdeal.Read.val_main_cst_4, Cert.ReferenceInIdeal.Read.val_main_cst_5, Cert.ReferenceInIdeal.Read.val_main_cst_6]
  refine congrArg₂ (fun a b : EReal => a * b) (congrArg₂ (fun a b : EReal => a * b) (congrArg₂ (fun a b : EReal => a * b) (congrArg (pRef m c) ?_)
      (congrArg Ideal.rsqrt (congrArg₂ (fun a b : EReal => a + b) (congrArg₂ Ideal.div (Finset.sum_congr rfl fun z _ => congrArg₂ (fun a b : EReal => a * b) (congrArg (pRef m c) ?_) (congrArg (pRef m c) ?_)) rfl) rfl)))
      (congrArg (m ((c : Thread nD τ).loc main_arg4)) ?_)) rfl
  all_goals blk_ext

set_option maxHeartbeats 400000 in
/-- A point stores segment 0 as the reference has it. -/
theorem seg_0 (c : Dev nD) (t : Fin cfg0.N) (ht : sg t.val = 0) (y : S8x1024x128.Idx) (i : Cert.ReferenceInIdeal.S8x16384x128.Idx) (h0 : (i 0 : ℕ) = y 0)
    (h1 : (i 1 : ℕ) = t.val / 9 * 1024 + (y 1 : ℕ)) (h2 : (i 2 : ℕ) = y 2) :
    (show EReal from normBlk (rowsAt m c (base t)) (iblk m c 3 t) (iblk m c 5 t) y)
      = (show EReal from Cert.ReferenceInIdeal.Read.val_main_v115 (F := Ideal) (m ((c : Thread nD τ).loc main_arg0)) (m ((c : Thread nD τ).loc main_arg1)) (m ((c : Thread nD τ).loc main_arg2)) (m ((c : Thread nD τ).loc main_arg3)) (m ((c : Thread nD τ).loc main_arg4)) i) := by
  exact ((norm_point m c t y i 0 (by norm_num) (fun n hn => by rw [ht]; unfold wcol; split_ifs <;> omega) h0 h1 h2 _ (blk5_0 m c t ht (ix3 0 0 (y 2)) (ix1 (i 2)) h2)).trans (mul_assoc _ _ _).symm).trans (ref_0 m c i).symm

set_option maxHeartbeats 400000 in
/-- The reference's segment 1, the keys of the block selection. -/
theorem ref_1 (c : Dev nD) (i : Cert.ReferenceInIdeal.S8x16384x128.Idx) :
    (show EReal from Cert.ReferenceInIdeal.Read.val_main_v117 (F := Ideal) (m ((c : Thread nD τ).loc main_arg0)) (m ((c : Thread nD τ).loc main_arg1)) (m ((c : Thread nD τ).loc main_arg2)) (m ((c : Thread nD τ).loc main_arg3)) (m ((c : Thread nD τ).loc main_arg5)) i)
      = pAt m c 1024 (by norm_num) i (i 2) * Ideal.rsqrt (Ideal.div (∑ x : Fin 128, pAt m c 1024 (by norm_num) i x * pAt m c 1024 (by norm_num) i x) (Ideal.ofBits FTy.f32 1124073472#32)
          + Ideal.ofBits FTy.f32 897988541#32) * (show EReal from m ((c : Thread nD τ).loc main_arg5) (ix1 (i 2))) := by
  pointwise [Cert.ReferenceInIdeal.Read.val_main_v117, Cert.ReferenceInIdeal.Read.val_main_v116, Cert.ReferenceInIdeal.Read.val_main_v52, Cert.ReferenceInIdeal.Read.val_main_v53, Cert.ReferenceInIdeal.Read.val_main_v54, Cert.ReferenceInIdeal.Read.val_main_v55, Cert.ReferenceInIdeal.Read.val_main_v56, Cert.ReferenceInIdeal.Read.val_main_v57, Cert.ReferenceInIdeal.Read.val_main_v58, Cert.ReferenceInIdeal.Read.val_main_v59, Cert.ReferenceInIdeal.Read.val_main_v60, Cert.ReferenceInIdeal.Read.val_main_v61, Cert.ReferenceInIdeal.Read.val_main_v62, Cert.ReferenceInIdeal.Read.val_main_v63, Cert.ReferenceInIdeal.Read.val_main_v64, Cert.ReferenceInIdeal.Read.val_main_v65, Cert.ReferenceInIdeal.Read.val_main_v26, Cert.ReferenceInIdeal.Read.val_main_cst_7, Cert.ReferenceInIdeal.Read.val_main_cst_8, Cert.ReferenceInIdeal.Read.val_main_cst_9]

set_option maxHeartbeats 400000 in
/-- A point stores segment 1 as the reference has it. -/
theorem seg_1 (c : Dev nD) (t : Fin cfg0.N) (ht : sg t.val = 1) (y : S8x1024x128.Idx) (i : Cert.ReferenceInIdeal.S8x16384x128.Idx) (h0 : (i 0 : ℕ) = y 0)
    (h1 : (i 1 : ℕ) = t.val / 9 * 1024 + (y 1 : ℕ)) (h2 : (i 2 : ℕ) = y 2) :
    (show EReal from normBlk (rowsAt m c (base t)) (iblk m c 3 t) (iblk m c 5 t) y)
      = (show EReal from Cert.ReferenceInIdeal.Read.val_main_v117 (F := Ideal) (m ((c : Thread nD τ).loc main_arg0)) (m ((c : Thread nD τ).loc main_arg1)) (m ((c : Thread nD τ).loc main_arg2)) (m ((c : Thread nD τ).loc main_arg3)) (m ((c : Thread nD τ).loc main_arg5)) i) := by
  exact (norm_point m c t y i 1024 (by norm_num) (fun n hn => by rw [ht]; unfold wcol; split_ifs <;> omega) h0 h1 h2 _ (blk5_1 m c t ht (ix3 0 0 (y 2)) (ix1 (i 2)) h2)).trans (ref_1 m c i).symm

set_option maxHeartbeats 400000 in
/-- The reference's segment 2, the values of the block selection. -/
theorem ref_2 (c : Dev nD) (i : Cert.ReferenceInIdeal.S8x16384x128.Idx) :
    (show EReal from Cert.ReferenceInIdeal.Read.val_main_v119 (F := Ideal) (m ((c : Thread nD τ).loc main_arg0)) (m ((c : Thread nD τ).loc main_arg1)) (m ((c : Thread nD τ).loc main_arg2)) (m ((c : Thread nD τ).loc main_arg3)) i)
      = pAt m c 2048 (by norm_num) i (i 2) := by
  pointwise [Cert.ReferenceInIdeal.Read.val_main_v119, Cert.ReferenceInIdeal.Read.val_main_v118, Cert.ReferenceInIdeal.Read.val_main_v109, Cert.ReferenceInIdeal.Read.val_main_v27]

set_option maxHeartbeats 400000 in
/-- A point stores segment 2 as the reference has it. -/
theorem seg_2 (c : Dev nD) (t : Fin cfg0.N) (ht : sg t.val = 2) (y : S8x1024x128.Idx) (i : Cert.ReferenceInIdeal.S8x16384x128.Idx) (h0 : (i 0 : ℕ) = y 0)
    (h1 : (i 1 : ℕ) = t.val / 9 * 1024 + (y 1 : ℕ)) (h2 : (i 2 : ℕ) = y 2) :
    (show EReal from plainBlk (rowsAt m c (base t)) (iblk m c 3 t) y)
      = (show EReal from Cert.ReferenceInIdeal.Read.val_main_v119 (F := Ideal) (m ((c : Thread nD τ).loc main_arg0)) (m ((c : Thread nD τ).loc main_arg1)) (m ((c : Thread nD τ).loc main_arg2)) (m ((c : Thread nD τ).loc main_arg3)) i) := by
  rw [plain_apply, show (y 2 : Fin 128) = i 2 from Fin.ext h2.symm]
  exact (dot_point m c t y i 2048 (by norm_num) (fun n hn => by rw [ht]; unfold wcol; split_ifs <;> omega) h0 h1 (i 2)).trans (ref_2 m c i).symm

set_option maxHeartbeats 400000 in
/-- The reference's segment 3, the gate of the block selection. -/
theorem ref_3 (c : Dev nD) (i : Cert.ReferenceInIdeal.S8x16384x128.Idx) :
    (show EReal from Cert.ReferenceInIdeal.Read.val_main_v121 (F := Ideal) (m ((c : Thread nD τ).loc main_arg0)) (m ((c : Thread nD τ).loc main_arg1)) (m ((c : Thread nD τ).loc main_arg2)) (m ((c : Thread nD τ).loc main_arg3)) i)
      = pAt m c 3072 (by norm_num) i (i 2) := by
  pointwise [Cert.ReferenceInIdeal.Read.val_main_v121, Cert.ReferenceInIdeal.Read.val_main_v120, Cert.ReferenceInIdeal.Read.val_main_v110, Cert.ReferenceInIdeal.Read.val_main_v28]

set_option maxHeartbeats 400000 in
/-- A point stores segment 3 as the reference has it. -/
theorem seg_3 (c : Dev nD) (t : Fin cfg0.N) (ht : sg t.val = 3) (y : S8x1024x128.Idx) (i : Cert.ReferenceInIdeal.S8x16384x128.Idx) (h0 : (i 0 : ℕ) = y 0)
    (h1 : (i 1 : ℕ) = t.val / 9 * 1024 + (y 1 : ℕ)) (h2 : (i 2 : ℕ) = y 2) :
    (show EReal from plainBlk (rowsAt m c (base t)) (iblk m c 3 t) y)
      = (show EReal from Cert.ReferenceInIdeal.Read.val_main_v121 (F := Ideal) (m ((c : Thread nD τ).loc main_arg0)) (m ((c : Thread nD τ).loc main_arg1)) (m ((c : Thread nD τ).loc main_arg2)) (m ((c : Thread nD τ).loc main_arg3)) i) := by
  rw [plain_apply, show (y 2 : Fin 128) = i 2 from Fin.ext h2.symm]
  exact (dot_point m c t y i 3072 (by norm_num) (fun n hn => by rw [ht]; unfold wcol; split_ifs <;> omega) h0 h1 (i 2)).trans (ref_3 m c i).symm

set_option maxHeartbeats 400000 in
/-- The reference's segment 4, the selection queries. -/
theorem ref_4 (c : Dev nD) (i : Cert.ReferenceInIdeal.S8x16384x128.Idx) :
    (show EReal from Cert.ReferenceInIdeal.Read.val_main_v123 (F := Ideal) (m ((c : Thread nD τ).loc main_arg0)) (m ((c : Thread nD τ).loc main_arg1)) (m ((c : Thread nD τ).loc main_arg2)) (m ((c : Thread nD τ).loc main_arg3)) i)
      = pAt m c 4096 (by norm_num) i (i 2) := by
  pointwise [Cert.ReferenceInIdeal.Read.val_main_v123, Cert.ReferenceInIdeal.Read.val_main_v122, Cert.ReferenceInIdeal.Read.val_main_v111, Cert.ReferenceInIdeal.Read.val_main_v29]

set_option maxHeartbeats 400000 in
/-- A point stores segment 4 as the reference has it. -/
theorem seg_4 (c : Dev nD) (t : Fin cfg0.N) (ht : sg t.val = 4) (y : S8x1024x128.Idx) (i : Cert.ReferenceInIdeal.S8x16384x128.Idx) (h0 : (i 0 : ℕ) = y 0)
    (h1 : (i 1 : ℕ) = t.val / 9 * 1024 + (y 1 : ℕ)) (h2 : (i 2 : ℕ) = y 2) :
    (show EReal from plainBlk (rowsAt m c (base t)) (iblk m c 3 t) y)
      = (show EReal from Cert.ReferenceInIdeal.Read.val_main_v123 (F := Ideal) (m ((c : Thread nD τ).loc main_arg0)) (m ((c : Thread nD τ).loc main_arg1)) (m ((c : Thread nD τ).loc main_arg2)) (m ((c : Thread nD τ).loc main_arg3)) i) := by
  rw [plain_apply, show (y 2 : Fin 128) = i 2 from Fin.ext h2.symm]
  exact (dot_point m c t y i 4096 (by norm_num) (fun n hn => by rw [ht]; unfold wcol; split_ifs <;> omega) h0 h1 (i 2)).trans (ref_4 m c i).symm

set_option maxHeartbeats 400000 in
/-- The reference's segment 5, the queries of the block attention. -/
theorem ref_5 (c : Dev nD) (i : Cert.ReferenceInIdeal.S8x16384x128.Idx) :
    (show EReal from Cert.ReferenceInIdeal.Read.val_main_v125 (F := Ideal) (m ((c : Thread nD τ).loc main_arg0)) (m ((c : Thread nD τ).loc main_arg1)) (m ((c : Thread nD τ).loc main_arg2)) (m ((c : Thread nD τ).loc main_arg3)) (m ((c : Thread nD τ).loc main_arg7)) i)
      = pAt m c 5200 (by norm_num) i (i 2) * Ideal.rsqrt (Ideal.div (∑ x : Fin 128, pAt m c 5200 (by norm_num) i x * pAt m c 5200 (by norm_num) i x) (Ideal.ofBits FTy.f32 1124073472#32)
          + Ideal.ofBits FTy.f32 897988541#32) * (show EReal from m ((c : Thread nD τ).loc main_arg7) (ix1 (i 2))) * Ideal.ofBits FTy.f32 1035273459#32 := by
  pointwise [Cert.ReferenceInIdeal.Read.val_main_v125, Cert.ReferenceInIdeal.Read.val_main_v124, Cert.ReferenceInIdeal.Read.val_main_v79, Cert.ReferenceInIdeal.Read.val_main_v80, Cert.ReferenceInIdeal.Read.val_main_v81, Cert.ReferenceInIdeal.Read.val_main_v82, Cert.ReferenceInIdeal.Read.val_main_v83, Cert.ReferenceInIdeal.Read.val_main_v84, Cert.ReferenceInIdeal.Read.val_main_v85, Cert.ReferenceInIdeal.Read.val_main_v86, Cert.ReferenceInIdeal.Read.val_main_v87, Cert.ReferenceInIdeal.Read.val_main_v88, Cert.ReferenceInIdeal.Read.val_main_v89, Cert.ReferenceInIdeal.Read.val_main_v90, Cert.ReferenceInIdeal.Read.val_main_v91, Cert.ReferenceInIdeal.Read.val_main_v92, Cert.ReferenceInIdeal.Read.val_main_v93, Cert.ReferenceInIdeal.Read.val_main_v94, Cert.ReferenceInIdeal.Read.val_main_v32, Cert.ReferenceInIdeal.Read.val_main_cst_13, Cert.ReferenceInIdeal.Read.val_main_cst_14, Cert.ReferenceInIdeal.Read.val_main_cst_15, Cert.ReferenceInIdeal.Read.val_main_cst_16]

set_option maxHeartbeats 400000 in
/-- A point stores segment 5 as the reference has it. -/
theorem seg_5 (c : Dev nD) (t : Fin cfg0.N) (ht : sg t.val = 5) (y : S8x1024x128.Idx) (i : Cert.ReferenceInIdeal.S8x16384x128.Idx) (h0 : (i 0 : ℕ) = y 0)
    (h1 : (i 1 : ℕ) = t.val / 9 * 1024 + (y 1 : ℕ)) (h2 : (i 2 : ℕ) = y 2) :
    (show EReal from normBlk (rowsAt m c (base t)) (iblk m c 3 t) (iblk m c 5 t) y)
      = (show EReal from Cert.ReferenceInIdeal.Read.val_main_v125 (F := Ideal) (m ((c : Thread nD τ).loc main_arg0)) (m ((c : Thread nD τ).loc main_arg1)) (m ((c : Thread nD τ).loc main_arg2)) (m ((c : Thread nD τ).loc main_arg3)) (m ((c : Thread nD τ).loc main_arg7)) i) := by
  exact ((norm_point m c t y i 5200 (by norm_num) (fun n hn => by rw [ht]; unfold wcol; split_ifs <;> omega) h0 h1 h2 _ (blk5_5 m c t ht (ix3 0 0 (y 2)) (ix1 (i 2)) h2)).trans (mul_assoc _ _ _).symm).trans (ref_5 m c i).symm

set_option maxHeartbeats 400000 in
/-- The reference's segment 6, the keys of the block attention. -/
theorem ref_6 (c : Dev nD) (i : Cert.ReferenceInIdeal.S8x16384x128.Idx) :
    (show EReal from Cert.ReferenceInIdeal.Read.val_main_v127 (F := Ideal) (m ((c : Thread nD τ).loc main_arg0)) (m ((c : Thread nD τ).loc main_arg1)) (m ((c : Thread nD τ).loc main_arg2)) (m ((c : Thread nD τ).loc main_arg3)) (m ((c : Thread nD τ).loc main_arg8)) i)
      = pAt m c 6224 (by norm_num) i (i 2) * Ideal.rsqrt (Ideal.div (∑ x : Fin 128, pAt m c 6224 (by norm_num) i x * pAt m c 6224 (by norm_num) i x) (Ideal.ofBits FTy.f32 1124073472#32)
          + Ideal.ofBits FTy.f32 897988541#32) * (show EReal from m ((c : Thread nD τ).loc main_arg8) (ix1 (i 2))) := by
  pointwise [Cert.ReferenceInIdeal.Read.val_main_v127, Cert.ReferenceInIdeal.Read.val_main_v126, Cert.ReferenceInIdeal.Read.val_main_v95, Cert.ReferenceInIdeal.Read.val_main_v96, Cert.ReferenceInIdeal.Read.val_main_v97, Cert.ReferenceInIdeal.Read.val_main_v98, Cert.ReferenceInIdeal.Read.val_main_v99, Cert.ReferenceInIdeal.Read.val_main_v100, Cert.ReferenceInIdeal.Read.val_main_v101, Cert.ReferenceInIdeal.Read.val_main_v102, Cert.ReferenceInIdeal.Read.val_main_v103, Cert.ReferenceInIdeal.Read.val_main_v104, Cert.ReferenceInIdeal.Read.val_main_v105, Cert.ReferenceInIdeal.Read.val_main_v106, Cert.ReferenceInIdeal.Read.val_main_v107, Cert.ReferenceInIdeal.Read.val_main_v108, Cert.ReferenceInIdeal.Read.val_main_v33, Cert.ReferenceInIdeal.Read.val_main_cst_17, Cert.ReferenceInIdeal.Read.val_main_cst_18, Cert.ReferenceInIdeal.Read.val_main_cst_19]

set_option maxHeartbeats 400000 in
/-- A point stores segment 6 as the reference has it. -/
theorem seg_6 (c : Dev nD) (t : Fin cfg0.N) (ht : sg t.val = 6) (y : S8x1024x128.Idx) (i : Cert.ReferenceInIdeal.S8x16384x128.Idx) (h0 : (i 0 : ℕ) = y 0)
    (h1 : (i 1 : ℕ) = t.val / 9 * 1024 + (y 1 : ℕ)) (h2 : (i 2 : ℕ) = y 2) :
    (show EReal from normBlk (rowsAt m c (base t)) (iblk m c 3 t) (iblk m c 5 t) y)
      = (show EReal from Cert.ReferenceInIdeal.Read.val_main_v127 (F := Ideal) (m ((c : Thread nD τ).loc main_arg0)) (m ((c : Thread nD τ).loc main_arg1)) (m ((c : Thread nD τ).loc main_arg2)) (m ((c : Thread nD τ).loc main_arg3)) (m ((c : Thread nD τ).loc main_arg8)) i) := by
  exact (norm_point m c t y i 6224 (by norm_num) (fun n hn => by rw [ht]; unfold wcol; split_ifs <;> omega) h0 h1 h2 _ (blk5_6 m c t ht (ix3 0 0 (y 2)) (ix1 (i 2)) h2)).trans (ref_6 m c i).symm

set_option maxHeartbeats 400000 in
/-- The reference's segment 7, the values of the block attention. -/
theorem ref_7 (c : Dev nD) (i : Cert.ReferenceInIdeal.S8x16384x128.Idx) :
    (show EReal from Cert.ReferenceInIdeal.Read.val_main_v129 (F := Ideal) (m ((c : Thread nD τ).loc main_arg0)) (m ((c : Thread nD τ).loc main_arg1)) (m ((c : Thread nD τ).loc main_arg2)) (m ((c : Thread nD τ).loc main_arg3)) i)
      = pAt m c 7248 (by norm_num) i (i 2) := by
  pointwise [Cert.ReferenceInIdeal.Read.val_main_v129, Cert.ReferenceInIdeal.Read.val_main_v128, Cert.ReferenceInIdeal.Read.val_main_v112, Cert.ReferenceInIdeal.Read.val_main_v34]

set_option maxHeartbeats 400000 in
/-- A point stores segment 7 as the reference has it. -/
theorem seg_7 (c : Dev nD) (t : Fin cfg0.N) (ht : sg t.val = 7) (y : S8x1024x128.Idx) (i : Cert.ReferenceInIdeal.S8x16384x128.Idx) (h0 : (i 0 : ℕ) = y 0)
    (h1 : (i 1 : ℕ) = t.val / 9 * 1024 + (y 1 : ℕ)) (h2 : (i 2 : ℕ) = y 2) :
    (show EReal from plainBlk (rowsAt m c (base t)) (iblk m c 3 t) y)
      = (show EReal from Cert.ReferenceInIdeal.Read.val_main_v129 (F := Ideal) (m ((c : Thread nD τ).loc main_arg0)) (m ((c : Thread nD τ).loc main_arg1)) (m ((c : Thread nD τ).loc main_arg2)) (m ((c : Thread nD τ).loc main_arg3)) i) := by
  rw [plain_apply, show (y 2 : Fin 128) = i 2 from Fin.ext h2.symm]
  exact (dot_point m c t y i 7248 (by norm_num) (fun n hn => by rw [ht]; unfold wcol; split_ifs <;> omega) h0 h1 (i 2)).trans (ref_7 m c i).symm

set_option maxHeartbeats 400000 in
/-- The reference's segment 8, the gate of the block attention. -/
theorem ref_8 (c : Dev nD) (i : Cert.ReferenceInIdeal.S8x16384x128.Idx) :
    (show EReal from Cert.ReferenceInIdeal.Read.val_main_v131 (F := Ideal) (m ((c : Thread nD τ).loc main_arg0)) (m ((c : Thread nD τ).loc main_arg1)) (m ((c : Thread nD τ).loc main_arg2)) (m ((c : Thread nD τ).loc main_arg3)) i)
      = pAt m c 8272 (by norm_num) i (i 2) := by
  pointwise [Cert.ReferenceInIdeal.Read.val_main_v131, Cert.ReferenceInIdeal.Read.val_main_v130, Cert.ReferenceInIdeal.Read.val_main_v113, Cert.ReferenceInIdeal.Read.val_main_v35]

set_option maxHeartbeats 400000 in
/-- A point stores segment 8 as the reference has it. -/
theorem seg_8 (c : Dev nD) (t : Fin cfg0.N) (ht : sg t.val = 8) (y : S8x1024x128.Idx) (i : Cert.ReferenceInIdeal.S8x16384x128.Idx) (h0 : (i 0 : ℕ) = y 0)
    (h1 : (i 1 : ℕ) = t.val / 9 * 1024 + (y 1 : ℕ)) (h2 : (i 2 : ℕ) = y 2) :
    (show EReal from plainBlk (rowsAt m c (base t)) (iblk m c 3 t) y)
      = (show EReal from Cert.ReferenceInIdeal.Read.val_main_v131 (F := Ideal) (m ((c : Thread nD τ).loc main_arg0)) (m ((c : Thread nD τ).loc main_arg1)) (m ((c : Thread nD τ).loc main_arg2)) (m ((c : Thread nD τ).loc main_arg3)) i) := by
  rw [plain_apply, show (y 2 : Fin 128) = i 2 from Fin.ext h2.symm]
  exact (dot_point m c t y i 8272 (by norm_num) (fun n hn => by rw [ht]; unfold wcol; split_ifs <;> omega) h0 h1 (i 2)).trans (ref_8 m c i).symm

end Cert.KernelInIdeal.Hand

end
-- ==== Proof.InTail.lean ====
module

public import proofs.«01_k».proof.Proof.InRows

/-!
# The projection's tail

The weights of the heads of the block selection, and its normed keys. The kernel takes the keys' mean square over 128
lanes that hold the 64 columns twice; the reference takes it over the 64 columns.
-/

@[expose] public section

set_option maxRecDepth 16384

noncomputable section

open Idealize.ShloMosaic Idealize.ShloMosaic.TcCoe Idealize.SL.Sem
open Idealize.ShloMosaic.Pipeline (Dat)

namespace Cert.KernelInIdeal.Hand

open Cert.KernelInIdeal Cert.KernelInIdeal.Gen

variable (m : (ℓ : Loc nD τ sig) → Buf (Elt Ideal) ℓ)

/-- The reference's weights of the selection's heads, padded to 128 columns. -/
abbrev wRef (c : Dev nD) : FVec Ideal S16384x128 .f32 :=
  Cert.ReferenceInIdeal.Read.val_main_v136 (F := Ideal) (m ((c : Thread nD τ).loc main_arg0)) (m ((c : Thread nD τ).loc main_arg1)) (m ((c : Thread nD τ).loc main_arg2)) (m ((c : Thread nD τ).loc main_arg3))

/-- The reference's normed keys of the selection, each held twice. -/
abbrev kRef (c : Dev nD) : FVec Ideal S16384x128 .bf16 :=
  Cert.ReferenceInIdeal.Read.val_main_v138 (F := Ideal) (m ((c : Thread nD τ).loc main_arg0)) (m ((c : Thread nD τ).loc main_arg1)) (m ((c : Thread nD τ).loc main_arg2)) (m ((c : Thread nD τ).loc main_arg3)) (m ((c : Thread nD τ).loc main_arg6))

/-- The mean over 128 lanes that hold 64 values twice is the mean over the 64. -/
theorem mean_twice (f : Fin 128 → EReal) (g : Fin 64 → EReal) (h : ∀ x : Fin 128, f x = g ⟨x.val % 64, Nat.mod_lt _ (by norm_num)⟩) :
    Ideal.div (∑ x, f x) (Ideal.ofBits FTy.f32 1124073472#32) = Ideal.div (∑ x, g x) (Ideal.ofBits FTy.f32 1115684864#32) := by
  have h128 : Ideal.ofBits FTy.f32 1124073472#32 = ((128 : ℝ) : EReal) := by simp [Ideal.ofBits, Ideal.ieee, -EReal.coe_mul]; norm_num
  have h64 : Ideal.ofBits FTy.f32 1115684864#32 = ((64 : ℝ) : EReal) := by simp [Ideal.ofBits, Ideal.ieee, -EReal.coe_mul]; norm_num
  have hs : (∑ x, f x) = (∑ x, g x) + ∑ x, g x := by
    refine (Fin.sum_univ_add (a := 64) (b := 64) f).trans (congrArg₂ (fun a b : EReal => a + b) ?_ ?_)
    · exact Finset.sum_congr rfl fun x _ => (h _).trans (congrArg g (Fin.ext (Nat.mod_eq_of_lt x.isLt)))
    · refine Finset.sum_congr rfl fun x _ => (h _).trans (congrArg g (Fin.ext ?_))
      show (64 + x.val) % 64 = x.val
      have := x.isLt
      omega
  rw [h128, h64, hs, Ideal.div_coe (by norm_num), Ideal.div_coe (by norm_num)]
  generalize (∑ x, g x) = s
  induction s with
  | bot => rw [EReal.bot_add, EReal.bot_mul_coe_of_pos (by norm_num), EReal.bot_mul_coe_of_pos (by norm_num)]
  | top => rw [EReal.top_add_top, EReal.top_mul_coe_of_pos (by norm_num), EReal.top_mul_coe_of_pos (by norm_num)]
  | coe a => norm_cast; push_cast; ring

set_option maxHeartbeats 400000 in
/-- One weight of the tail. -/
theorem wgt_point (c : Dev nD) (b : Fin cfg0.N) (r : Fin 1024) (n : Fin 128) (j : S16384x128.Idx)
    (h0 : (j 0 : ℕ) = b.val / 9 * 1024 + (r : ℕ)) (h1 : (j 1 : ℕ) = n) :
    (show EReal from wgtAt m c b (ix2 r n)) = wRef m c j := by
  unfold wgtAt wgtBlk
  rw [View.canon_unit_zero (by decide)]
  pointwise [k0_pay2, k0_pay12, wRef, Cert.ReferenceInIdeal.Read.val_main_v136, Cert.ReferenceInIdeal.Read.val_main_v135, Cert.ReferenceInIdeal.Read.val_main_v31, Cert.ReferenceInIdeal.Read.val_main_c, Cert.ReferenceInIdeal.Read.val_main_call0_v0]
  have hn : (n : ℕ) < 128 := n.isLt
  have hj0 : (j 0 : ℕ) < 16384 := (j 0).isLt
  rcases Nat.lt_or_ge (j 1 : ℕ) 16 with h | h
  · rw [dif_pos h]
    exact dot_tail m c b r ⟨128 + (n : ℕ), by omega⟩ (ix3 ⟨(j 0 : ℕ) / 2048, by omega⟩ ⟨(j 0 : ℕ) % 2048, by omega⟩ ⟨5184 + (j 1 : ℕ), by omega⟩)
      (by show (j 0 : ℕ) / 2048 = _; rw [h0]) (by show (j 0 : ℕ) % 2048 = _; rw [h0]) (by show 128 + (n : ℕ) < 144; omega)
      (by show 5184 + (j 1 : ℕ) = if 128 + (n : ℕ) < 64 then _ else 5056 + (128 + (n : ℕ)); rw [if_neg (by omega)]; omega)
  · rw [dif_neg (by omega)]
    refine (dot_tail_zero m c b r ⟨128 + (n : ℕ), by omega⟩ (by show 144 ≤ 128 + (n : ℕ); omega)).trans ?_
    simp [FloatOps.sitofp]

set_option maxHeartbeats 400000 in
/-- One normed key of the tail. -/
theorem key_point (c : Dev nD) (b : Fin cfg0.N) (r : Fin 1024) (n : Fin 128) (j : S16384x128.Idx)
    (h0 : (j 0 : ℕ) = b.val / 9 * 1024 + (r : ℕ)) (h1 : (j 1 : ℕ) = n) :
    (show EReal from keyAt m c b (ix2 r n)) = kRef m c j := by
  unfold keyAt keyBlk
  rw [View.canon_unit_zero (by decide)]
  have hn : (n : ℕ) < 128 := n.isLt
  have hj0 : (j 0 : ℕ) < 16384 := (j 0).isLt
  have ed (x : Fin 128) (q : Cert.ReferenceInIdeal.S8x2048x9296.Idx) (hq0 : (q 0 : ℕ) = (j 0 : ℕ) / 2048)
      (hq1 : (q 1 : ℕ) = (j 0 : ℕ) % 2048) (hq2 : (q 2 : ℕ) = 5120 + (x : ℕ) % 64) :
      (∑ k : Fin 2048, (show EReal from hRows m c b (ix2 r k)) * (show EReal from iblk m c 4 b (ix2 ⟨(x : ℕ), by omega⟩ k))) = pRef m c q := by
    refine dot_tail m c b r _ q (by rw [hq0, h0]) (by rw [hq1, h0]) (by dsimp only; omega) ?_
    rw [hq2]; dsimp only; split_ifs <;> omega
  pointwise [k0_pay1, k0_pay13, k0_pay14, k0_pay12, kRef, Cert.ReferenceInIdeal.Read.val_main_v138, Cert.ReferenceInIdeal.Read.val_main_v134, Cert.ReferenceInIdeal.Read.val_main_v133, Cert.ReferenceInIdeal.Read.val_main_v78, Cert.ReferenceInIdeal.Read.val_main_v77, Cert.ReferenceInIdeal.Read.val_main_v76, Cert.ReferenceInIdeal.Read.val_main_v75, Cert.ReferenceInIdeal.Read.val_main_v74, Cert.ReferenceInIdeal.Read.val_main_v73, Cert.ReferenceInIdeal.Read.val_main_v72, Cert.ReferenceInIdeal.Read.val_main_v71, Cert.ReferenceInIdeal.Read.val_main_v70, Cert.ReferenceInIdeal.Read.val_main_v69, Cert.ReferenceInIdeal.Read.val_main_v68, Cert.ReferenceInIdeal.Read.val_main_v67, Cert.ReferenceInIdeal.Read.val_main_v66, Cert.ReferenceInIdeal.Read.val_main_v30, Cert.ReferenceInIdeal.Read.val_main_cst_10, Cert.ReferenceInIdeal.Read.val_main_cst_11, Cert.ReferenceInIdeal.Read.val_main_cst_12]
  have em : ∀ e : EReal, Ideal.rsqrt (Ideal.div (∑ x : Fin 128, (∑ k : Fin 2048, (show EReal from hRows m c b (ix2 r k)) * (show EReal from iblk m c 4 b (ix2 ⟨(x : ℕ), by omega⟩ k)))
        * (∑ k : Fin 2048, (show EReal from hRows m c b (ix2 r k)) * (show EReal from iblk m c 4 b (ix2 ⟨(x : ℕ), by omega⟩ k)))) (Ideal.ofBits FTy.f32 1124073472#32) + e)
      = Ideal.rsqrt (Ideal.div (∑ x : Fin 64, (show EReal from pRef m c (ix3 ⟨(j 0 : ℕ) / 2048, by omega⟩ ⟨(j 0 : ℕ) % 2048, by omega⟩ ⟨5120 + (x : ℕ), by omega⟩))
        * (show EReal from pRef m c (ix3 ⟨(j 0 : ℕ) / 2048, by omega⟩ ⟨(j 0 : ℕ) % 2048, by omega⟩ ⟨5120 + (x : ℕ), by omega⟩))) (Ideal.ofBits FTy.f32 1115684864#32) + e) := fun e =>
    congrArg (fun a : EReal => Ideal.rsqrt (a + e)) (mean_twice _ _ fun x => congrArg₂ (fun a b : EReal => a * b) (ed x _ rfl rfl rfl) (ed x _ rfl rfl rfl))
  split_ifs with h
  · refine congrArg₂ (fun a b : EReal => a * b) (congrArg₂ (fun a b : EReal => a * b) (ed n (ix3 ⟨(j 0 : ℕ) / 2048, by omega⟩ ⟨(j 0 : ℕ) % 2048, by omega⟩ ⟨5120 + (j 1 : ℕ), by omega⟩) rfl rfl ?_) (em _)) (blk6 m c b (ix2 0 n) (ix1 ⟨(j 1 : ℕ), h⟩) ?_)
    · show 5120 + (j 1 : ℕ) = 5120 + (n : ℕ) % 64
      omega
    · show (j 1 : ℕ) = (n : ℕ) % 64
      omega
  all_goals
    have h' : ¬(j 1 : ℕ) < 64 := h
    refine congrArg₂ (fun a b : EReal => a * b) (congrArg₂ (fun a b : EReal => a * b) (ed n (ix3 ⟨(j 0 : ℕ) / 2048, by omega⟩ ⟨(j 0 : ℕ) % 2048, by omega⟩ ⟨5120 + ((j 1 : ℕ) - 64), by omega⟩) rfl rfl ?_) (em _)) (blk6 m c b (ix2 0 n) (ix1 ⟨(j 1 : ℕ) - 64, by omega⟩) ?_)
    · show 5120 + ((j 1 : ℕ) - 64) = 5120 + (n : ℕ) % 64
      omega
    · show (j 1 : ℕ) - 64 = (n : ℕ) % 64
      omega

/-- The array of keys after the run is the reference's. -/
theorem final8 (c : Dev nD) : (dats m 0 c).arrAt 8 (cfgs 0).N = kRef m c := by
  refine (dats m 0 c).arrAt_eq_of_covers 8 _ (by decide +kernel) fun t _ y => ?_
  blk_simp
  rw [after8]
  refine Eq.trans ?_ (key_point m c (base t) (y 0) (y 1) _ ?_ ?_)
  · exact congrArg (keyAt m c (base t)) (by blk_ext)
  all_goals ((try rw [base_div]) <;> blk_simp [idx t] <;> omega)

/-- The array of weights after the run is the reference's. -/
theorem final9 (c : Dev nD) : (dats m 0 c).arrAt 9 (cfgs 0).N = wRef m c := by
  refine (dats m 0 c).arrAt_eq_of_covers 9 _ (by decide +kernel) fun t _ y => ?_
  blk_simp
  rw [after9]
  refine Eq.trans ?_ (wgt_point m c (base t) (y 0) (y 1) _ ?_ ?_)
  · exact congrArg (wgtAt m c (base t)) (by blk_ext)
  all_goals ((try rw [base_div]) <;> blk_simp [idx t] <;> omega)

end Cert.KernelInIdeal.Hand

end
-- ==== Proof.InValue.lean ====
module

public import proofs.«01_k».proof.Proof.InSegs
public import proofs.«01_k».proof.Proof.InTail

/-!
# The projection's arrays after the run

All three arrays the kernel leaves are the reference's.
-/

@[expose] public section

set_option maxRecDepth 16384

noncomputable section

open Idealize.ShloMosaic Idealize.ShloMosaic.TcCoe Idealize.SL.Sem
open Idealize.ShloMosaic.Pipeline (Dat)

namespace Cert.KernelInIdeal.Hand

open Cert.KernelInIdeal Cert.KernelInIdeal.Gen

variable (m : (ℓ : Loc nD τ sig) → Buf (Elt Ideal) ℓ)

/-- The reference's nine segments, one after another. -/
abbrev sRef (c : Dev nD) : FVec Ideal S72x16384x128 .bf16 :=
  Cert.ReferenceInIdeal.Read.val_main_v137 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8))

set_option maxHeartbeats 400000 in
/-- Nine arrays of eight planes joined: plane `n` is plane `n % 8` of the array `n / 8`. -/
theorem planes (z0 z1 z2 z3 z4 z5 z6 z7 z8 : FVec Ideal Cert.ReferenceInIdeal.S8x16384x128 .f32) (i : Cert.ReferenceInIdeal.S72x16384x128.Idx)
    (w : EReal) (q : Cert.ReferenceInIdeal.S8x16384x128.Idx) (q0 : (q 0 : ℕ) = (i 0 : ℕ) % 8) (q1 : (q 1 : ℕ) = i 1) (q2 : (q 2 : ℕ) = i 2)
    (e0 : (i 0 : ℕ) / 8 = 0 → w = z0 q) (e1 : (i 0 : ℕ) / 8 = 1 → w = z1 q) (e2 : (i 0 : ℕ) / 8 = 2 → w = z2 q)
    (e3 : (i 0 : ℕ) / 8 = 3 → w = z3 q) (e4 : (i 0 : ℕ) / 8 = 4 → w = z4 q) (e5 : (i 0 : ℕ) / 8 = 5 → w = z5 q)
    (e6 : (i 0 : ℕ) / 8 = 6 → w = z6 q) (e7 : (i 0 : ℕ) / 8 = 7 → w = z7 q) (e8 : (i 0 : ℕ) / 8 = 8 → w = z8 q) :
    w = (show EReal from concatenate Cert.ReferenceInIdeal.S72x16384x128 0 [⟨Cert.ReferenceInIdeal.S8x16384x128, z0⟩, ⟨Cert.ReferenceInIdeal.S8x16384x128, z1⟩, ⟨Cert.ReferenceInIdeal.S8x16384x128, z2⟩,
      ⟨Cert.ReferenceInIdeal.S8x16384x128, z3⟩, ⟨Cert.ReferenceInIdeal.S8x16384x128, z4⟩, ⟨Cert.ReferenceInIdeal.S8x16384x128, z5⟩, ⟨Cert.ReferenceInIdeal.S8x16384x128, z6⟩,
      ⟨Cert.ReferenceInIdeal.S8x16384x128, z7⟩, ⟨Cert.ReferenceInIdeal.S8x16384x128, z8⟩] Cert.ReferenceInIdeal.Gen.concatenates_S8x16384x128_S8x16384x128_S8x16384x128_S8x16384x128_S8x16384x128_S8x16384x128_S8x16384x128_S8x16384x128_S8x16384x128_S72x16384x128_d0 i) := by
  have hi : (i 0 : ℕ) < 72 := (i 0).isLt
  pointwise
  split_ifs <;> first
    | exact (e0 (by omega)).trans (congrArg z0 (by blk_ext))
    | exact (e1 (by omega)).trans (congrArg z1 (by blk_ext))
    | exact (e2 (by omega)).trans (congrArg z2 (by blk_ext))
    | exact (e3 (by omega)).trans (congrArg z3 (by blk_ext))
    | exact (e4 (by omega)).trans (congrArg z4 (by blk_ext))
    | exact (e5 (by omega)).trans (congrArg z5 (by blk_ext))
    | exact (e6 (by omega)).trans (congrArg z6 (by blk_ext))
    | exact (e7 (by omega)).trans (congrArg z7 (by blk_ext))
    | exact (e8 (by omega)).trans (congrArg z8 (by blk_ext))

set_option maxHeartbeats 400000 in
/-- One entry a point stores is the reference's entry at the place the block is written to. -/
theorem seg_point (c : Dev nD) (t : Fin cfg0.N) (y : S8x1024x128.Idx) (i : S72x16384x128.Idx) (h0 : (i 0 : ℕ) = sg t.val * 8 + (y 0 : ℕ))
    (h1 : (i 1 : ℕ) = t.val / 9 * 1024 + (y 1 : ℕ)) (h2 : (i 2 : ℕ) = y 2) :
    (show EReal from seg (grid0.coords t) (rowsAt m c (base t)) (iblk m c 3 t) (iblk m c 5 t) y) = sRef m c i := by
  have hy : (y 0 : ℕ) < 8 := (y 0).isLt
  have hc {k : ℕ} (h : (i 0 : ℕ) / 8 = k) : sg t.val = k := by omega
  have norm (h : sg t.val = 0 ∨ sg t.val = 1 ∨ sg t.val = 5 ∨ sg t.val = 6) : seg (grid0.coords t) (rowsAt m c (base t)) (iblk m c 3 t) (iblk m c 5 t) y
      = normBlk (rowsAt m c (base t)) (iblk m c 3 t) (iblk m c 5 t) y := by
    unfold seg
    rw [if_pos ((cond2_iff t).mpr h)]
  have plain (h : ¬(sg t.val = 0 ∨ sg t.val = 1 ∨ sg t.val = 5 ∨ sg t.val = 6)) : seg (grid0.coords t) (rowsAt m c (base t)) (iblk m c 3 t) (iblk m c 5 t) y
      = plainBlk (rowsAt m c (base t)) (iblk m c 3 t) y := by
    unfold seg
    rw [if_neg (fun e => h ((cond2_iff t).mp e))]
  exact planes
    (Cert.ReferenceInIdeal.Read.val_main_v115 (F := Ideal) (m ((c : Thread nD τ).loc main_arg0)) (m ((c : Thread nD τ).loc main_arg1)) (m ((c : Thread nD τ).loc main_arg2)) (m ((c : Thread nD τ).loc main_arg3)) (m ((c : Thread nD τ).loc main_arg4)))
    (Cert.ReferenceInIdeal.Read.val_main_v117 (F := Ideal) (m ((c : Thread nD τ).loc main_arg0)) (m ((c : Thread nD τ).loc main_arg1)) (m ((c : Thread nD τ).loc main_arg2)) (m ((c : Thread nD τ).loc main_arg3)) (m ((c : Thread nD τ).loc main_arg5)))
    (Cert.ReferenceInIdeal.Read.val_main_v119 (F := Ideal) (m ((c : Thread nD τ).loc main_arg0)) (m ((c : Thread nD τ).loc main_arg1)) (m ((c : Thread nD τ).loc main_arg2)) (m ((c : Thread nD τ).loc main_arg3)))
    (Cert.ReferenceInIdeal.Read.val_main_v121 (F := Ideal) (m ((c : Thread nD τ).loc main_arg0)) (m ((c : Thread nD τ).loc main_arg1)) (m ((c : Thread nD τ).loc main_arg2)) (m ((c : Thread nD τ).loc main_arg3)))
    (Cert.ReferenceInIdeal.Read.val_main_v123 (F := Ideal) (m ((c : Thread nD τ).loc main_arg0)) (m ((c : Thread nD τ).loc main_arg1)) (m ((c : Thread nD τ).loc main_arg2)) (m ((c : Thread nD τ).loc main_arg3)))
    (Cert.ReferenceInIdeal.Read.val_main_v125 (F := Ideal) (m ((c : Thread nD τ).loc main_arg0)) (m ((c : Thread nD τ).loc main_arg1)) (m ((c : Thread nD τ).loc main_arg2)) (m ((c : Thread nD τ).loc main_arg3)) (m ((c : Thread nD τ).loc main_arg7)))
    (Cert.ReferenceInIdeal.Read.val_main_v127 (F := Ideal) (m ((c : Thread nD τ).loc main_arg0)) (m ((c : Thread nD τ).loc main_arg1)) (m ((c : Thread nD τ).loc main_arg2)) (m ((c : Thread nD τ).loc main_arg3)) (m ((c : Thread nD τ).loc main_arg8)))
    (Cert.ReferenceInIdeal.Read.val_main_v129 (F := Ideal) (m ((c : Thread nD τ).loc main_arg0)) (m ((c : Thread nD τ).loc main_arg1)) (m ((c : Thread nD τ).loc main_arg2)) (m ((c : Thread nD τ).loc main_arg3)))
    (Cert.ReferenceInIdeal.Read.val_main_v131 (F := Ideal) (m ((c : Thread nD τ).loc main_arg0)) (m ((c : Thread nD τ).loc main_arg1)) (m ((c : Thread nD τ).loc main_arg2)) (m ((c : Thread nD τ).loc main_arg3)))
    i _ (ix3 (y 0) (i 1) (i 2)) (by show (y 0 : ℕ) = _; omega) rfl rfl
    (fun h => (norm (by rw [hc h]; omega)).trans (seg_0 m c t (hc h) y _ rfl h1 h2))
    (fun h => (norm (by rw [hc h]; omega)).trans (seg_1 m c t (hc h) y _ rfl h1 h2))
    (fun h => (plain (by rw [hc h]; omega)).trans (seg_2 m c t (hc h) y _ rfl h1 h2))
    (fun h => (plain (by rw [hc h]; omega)).trans (seg_3 m c t (hc h) y _ rfl h1 h2))
    (fun h => (plain (by rw [hc h]; omega)).trans (seg_4 m c t (hc h) y _ rfl h1 h2))
    (fun h => (norm (by rw [hc h]; omega)).trans (seg_5 m c t (hc h) y _ rfl h1 h2))
    (fun h => (norm (by rw [hc h]; omega)).trans (seg_6 m c t (hc h) y _ rfl h1 h2))
    (fun h => (plain (by rw [hc h]; omega)).trans (seg_7 m c t (hc h) y _ rfl h1 h2))
    (fun h => (plain (by rw [hc h]; omega)).trans (seg_8 m c t (hc h) y _ rfl h1 h2))

/-- The array of segments after the run is the reference's. -/
theorem final7 (c : Dev nD) : (dats m 0 c).arrAt 7 (cfgs 0).N = sRef m c := by
  refine (dats m 0 c).arrAt_eq_of_covers 7 _ (by decide +kernel) fun t _ y => ?_
  blk_simp
  rw [after7]
  exact seg_point m c t y _ (by blk_simp [idx t] <;> omega) (by blk_simp [idx t] <;> omega) (by blk_simp [idx t] <;> omega)

end Cert.KernelInIdeal.Hand

end
-- ==== Proof.OutValue.lean ====
module

public import proofs.«01_k».proof.Proof.Gen.KernelOutIdeal.Value
public import proofs.«01_k».proof.Proof.Gen.ReferenceOutIdeal.Run
public import Idealize.ShloMosaic.Lib.Pipeline.ValueKit
public import Idealize.ShloMosaic.Lib.Pointwise

/-!
# The output projection

`x + gate · (ya · W₁ + yb · W₂)`, where `W₁` and `W₂` are the upper and lower half of the projection's weights. The
reference multiplies the two attention outputs side by side with the whole weights: its sum over 2048 terms is the
two sums over 1024 terms. The kernel takes 512 rows at a grid point and stores four stretches of 512 columns.
-/

@[expose] public section

set_option maxRecDepth 16384

noncomputable section

open Idealize.ShloMosaic Idealize.ShloMosaic.TcCoe Idealize.SL.Sem
open Idealize.ShloMosaic.Pipeline (Dat)

namespace Cert.KernelOutIdeal.Value

open Cert.KernelOutIdeal Cert.KernelOutIdeal.Gen

variable (m : (ℓ : Loc nD τ sig) → Buf (Elt Ideal) ℓ)

/-- What the reference computes of the two attention outputs `ya`, `yb`, the weights `w`, the input `x` and the
    modulation `md`, whose last third is the gate. -/
abbrev outRef (ya yb : FVec Ideal S16384x1024 .bf16) (w : FVec Ideal S2048x2048 .f32)
    (x : FVec Ideal S8x2048x2048 .f32) (md : FVec Ideal S8x6144 .f32) : FVec Ideal S16384x2048 .f32 :=
  shapeCast _ (addf x (mulf
      (broadcastInDim Cert.ReferenceOutIdeal.S8x2048x2048 ![0, 1, 2] Cert.ReferenceOutIdeal.Gen.bcast_S8x1x2048_S8x2048x2048_0_1_2
        (broadcastInDim Cert.ReferenceOutIdeal.S8x1x2048 ![0, 2] Cert.ReferenceOutIdeal.Gen.bcast_S8x2048_S8x1x2048_0_2
          (extractStridedSlice Cert.ReferenceOutIdeal.S8x2048 ![0, 4096] md Cert.ReferenceOutIdeal.Gen.slices_S8x6144_S8x2048_0_4096)))
      (Host.dotGeneral Cert.ReferenceOutIdeal.dot_S8x2048x2048_S2048x2048_S8x2048x2048_2_0_01_1_n_n none
        (concatenate Cert.ReferenceOutIdeal.S8x2048x2048 2
          [⟨Cert.ReferenceOutIdeal.S8x2048x1024, (shapeCast _ (extf .f32 ya Cert.ReferenceOutIdeal.Gen.bitsLt_bf16_f32) Cert.ReferenceOutIdeal.Gen.shapeCasts_S16384x1024_S8x2048x1024)⟩,
           ⟨Cert.ReferenceOutIdeal.S8x2048x1024, (shapeCast _ (extf .f32 yb Cert.ReferenceOutIdeal.Gen.bitsLt_bf16_f32) Cert.ReferenceOutIdeal.Gen.shapeCasts_S16384x1024_S8x2048x1024)⟩]
          Cert.ReferenceOutIdeal.Gen.concatenates_S8x2048x1024_S8x2048x1024_S8x2048x2048_d2) w)))
    Cert.ReferenceOutIdeal.Gen.shapeCasts_S8x2048x2048_S16384x2048

/-- Where each window's block lies at each of the 32 points. -/
theorem idx : ∀ t : Fin cfg0.N, win0_0.index t = ![t.val, 0] ∧ win0_1.index t = ![t.val, 0] ∧ win0_2.index t = ![0, 0]
    ∧ win0_3.index t = ![1, 0] ∧ win0_4.index t = ![t.val, 0] ∧ win0_5.index t = ![t.val / 4, 0, 0]
    ∧ win0_6.index t = ![t.val, 0] :=
  (by decide +kernel : ∀ t : Fin grid0.N, _)

/-- The weights as the kernel is given them: the cast changes no entry. -/
theorem entry_w (c : Dev nD) (i : S2048x2048.Idx) :
    V m c main_v0 i = m ((c : Thread nD τ).loc main_arg2) i := by
  entry_read
  pointwise

/-- The input as the kernel is given it: row `r` is row `r % 2048` of example `r / 2048`. -/
theorem entry_x (c : Dev nD) (i : S16384x2048.Idx) (j : S8x2048x2048.Idx) (h0 : (j 0 : ℕ) = i 0 / 2048)
    (h1 : (j 1 : ℕ) = i 0 % 2048) (h2 : (j 2 : ℕ) = i 1) :
    V m c main_v1 i = m ((c : Thread nD τ).loc main_arg3) j := by
  entry_read
  pointwise
  blk_ext

/-- The modulation as the kernel is given it: three stretches of 2048. -/
theorem entry_mod (c : Dev nD) (i : S8x3x2048.Idx) (j : S8x6144.Idx) (h0 : (j 0 : ℕ) = i 0)
    (h1 : (j 1 : ℕ) = i 1 * 2048 + i 2) :
    V m c main_v2 i = m ((c : Thread nD τ).loc main_arg4) j := by
  entry_read
  pointwise
  blk_ext

/-! One entry of each window's block at point `t`, as an entry of the argument it comes from. -/

theorem blk0 (c : Dev nD) (t : Fin cfg0.N) (i : S512x1024.Idx) (j : S16384x1024.Idx) (h0 : (j 0 : ℕ) = t.val * 512 + i 0)
    (h1 : (j 1 : ℕ) = i 1) : iblk m c 0 t i = m ((c : Thread nD τ).loc main_arg0) j := by
  blk_point [iblk, V_main_arg0, idx t]

theorem blk1 (c : Dev nD) (t : Fin cfg0.N) (i : S512x1024.Idx) (j : S16384x1024.Idx) (h0 : (j 0 : ℕ) = t.val * 512 + i 0)
    (h1 : (j 1 : ℕ) = i 1) : iblk m c 1 t i = m ((c : Thread nD τ).loc main_arg1) j := by
  blk_point [iblk, V_main_arg1, idx t]

theorem blk2 (c : Dev nD) (t : Fin cfg0.N) (i : S1024x2048.Idx) (j : S2048x2048.Idx) (h0 : (j 0 : ℕ) = i 0)
    (h1 : (j 1 : ℕ) = i 1) : iblk m c 2 t i = m ((c : Thread nD τ).loc main_arg2) j := by
  refine (entry_w m c (((cfg0.win 2).blk t).view.emb i)).trans ?_
  blk_point [idx t]

theorem blk3 (c : Dev nD) (t : Fin cfg0.N) (i : S1024x2048.Idx) (j : S2048x2048.Idx) (h0 : (j 0 : ℕ) = 1024 + i 0)
    (h1 : (j 1 : ℕ) = i 1) : iblk m c 3 t i = m ((c : Thread nD τ).loc main_arg2) j := by
  refine (entry_w m c (((cfg0.win 3).blk t).view.emb i)).trans ?_
  blk_point [idx t]

theorem blk4 (c : Dev nD) (t : Fin cfg0.N) (i : S512x2048.Idx) (j : S8x2048x2048.Idx) (h0 : (j 0 : ℕ) = (t.val * 512 + i 0) / 2048)
    (h1 : (j 1 : ℕ) = (t.val * 512 + i 0) % 2048) (h2 : (j 2 : ℕ) = i 1) :
    iblk m c 4 t i = m ((c : Thread nD τ).loc main_arg3) j := by
  refine entry_x m c (((cfg0.win 4).blk t).view.emb i) j ?_ ?_ ?_ <;> blk_simp [idx t] <;> omega

theorem blk5 (c : Dev nD) (t : Fin cfg0.N) (i : S1x3x2048.Idx) (j : S8x6144.Idx) (h0 : (j 0 : ℕ) = t.val / 4)
    (h1 : (j 1 : ℕ) = i 1 * 2048 + i 2) : iblk m c 5 t i = m ((c : Thread nD τ).loc main_arg4) j := by
  refine entry_mod m c (((cfg0.win 5).blk t).view.emb i) j ?_ ?_ <;> blk_simp [idx t] <;> omega

/-- Row `r` and column `n` of what a point computes is the reference's entry of the row the block starts with plus `r`. -/
theorem core (c : Dev nD) (t : Fin cfg0.N) (r : Fin 512) (n : Fin 2048) (j : S16384x2048.Idx)
    (hj0 : (j 0 : ℕ) = t.val * 512 + r) (hj1 : (j 1 : ℕ) = n) :
    (show EReal from iblk m c 4 t (ix2 r n)) + (show EReal from iblk m c 5 t (ix3 0 2 n))
        * ((∑ k : Fin 1024, (show EReal from iblk m c 0 t (ix2 r k)) * (show EReal from iblk m c 2 t (ix2 k n)))
          + ∑ k : Fin 1024, (show EReal from iblk m c 1 t (ix2 r k)) * (show EReal from iblk m c 3 t (ix2 k n)))
      = outRef (m ((c : Thread nD τ).loc main_arg0)) (m ((c : Thread nD τ).loc main_arg1)) (m ((c : Thread nD τ).loc main_arg2))
          (m ((c : Thread nD τ).loc main_arg3)) (m ((c : Thread nD τ).loc main_arg4)) j := by
  pointwise [outRef]
  refine congrArg₂ (fun a b : EReal => a + b) (blk4 m c t _ _ ?_ ?_ ?_) (congrArg₂ (fun a b : EReal => a * b) (blk5 m c t _ _ ?_ ?_)
    (congrArg₂ (fun a b : EReal => a + b)
      (Finset.sum_congr rfl fun k _ => congrArg₂ (fun a b : EReal => a * b) (blk0 m c t _ _ ?_ ?_) (blk2 m c t _ _ ?_ ?_))
      (Finset.sum_congr rfl fun k _ => congrArg₂ (fun a b : EReal => a * b) (blk1 m c t _ _ ?_ ?_) (blk3 m c t _ _ ?_ ?_))))
  all_goals (blk_simp <;> (try dsimp only) <;> omega)

set_option maxHeartbeats 1000000 in
/-- One entry of the block a point stores is the reference's entry at the place the block is written to. -/
theorem point (c : Dev nD) (t : Fin cfg0.N) (y) :
    out0_6 (iblk m c 0 t) (iblk m c 1 t) (iblk m c 2 t) (iblk m c 3 t) (iblk m c 4 t) (iblk m c 5 t) y
      = outRef (m ((c : Thread nD τ).loc main_arg0)) (m ((c : Thread nD τ).loc main_arg1)) (m ((c : Thread nD τ).loc main_arg2))
          (m ((c : Thread nD τ).loc main_arg3)) (m ((c : Thread nD τ).loc main_arg4))
          (((cfg0.win 6).blk t).view.emb y) := by
  refine Eq.trans ?_ (core m c t (y 0) (y 1) _ ?_ ?_)
  · canon_tiles x h
    all_goals
      pointwise [k0_pay1, k0_pay2, k0_pay3, k0_pay4, k0_pay5, k0_pay6]
      have e0 : x 0 = y 0 := Fin.ext h0.symm
      simp only [← h1, e0]
      rfl
  all_goals (blk_simp [idx t] <;> omega)

/-- The result array after the run is the reference's. -/
theorem final (c : Dev nD) : (dats m 0 c).arrAt 6 (cfgs 0).N
    = outRef (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 6 _ (by decide +kernel) fun t _ y => ?_
  blk_simp
  rw [after0_6]
  exact point m c t y

end Cert.KernelOutIdeal.Value

end
-- ==== Proof.ModValue.lean ====
module

public import proofs.«01_k».proof.Proof.Gen.KernelModIdeal.Value
public import proofs.«01_k».proof.Proof.Gen.ReferenceModIdeal.Run
public import Idealize.ShloMosaic.Lib.Pipeline.ValueKit
public import Idealize.ShloMosaic.Lib.Pointwise

/-!
# The modulation call

`c ↦ silu c · W + b`, computed by the kernel one stretch of 1024 columns at a time. Each stretch is the same sum
over the 2048 conditioning features as the reference's product, so the array the six grid points fill is the
reference's array.
-/

@[expose] public section

set_option maxRecDepth 16384

noncomputable section

open Idealize.ShloMosaic Idealize.ShloMosaic.TcCoe Idealize.SL.Sem
open Idealize.ShloMosaic.Pipeline (Dat)

namespace Cert.KernelModIdeal.Value

open Cert.KernelModIdeal Cert.KernelModIdeal.Gen

variable (m : (ℓ : Loc nD τ sig) → Buf (Elt Ideal) ℓ)

/-- What the reference computes: the silu of the conditioning, spelt as a product with its logistic, times the
    weights, plus the bias in every row. -/
abbrev modRef (x : FVec Ideal S8x2048 .f32) (w : FVec Ideal S2048x6144 .f32) (b : FVec Ideal Cert.ReferenceModIdeal.S6144 .f32) :
    FVec Ideal S8x6144 .f32 :=
  addf (Host.dotGeneral Cert.ReferenceModIdeal.dot_S8x2048_S2048x6144_S8x6144_1_0_0_1_n_n none (mulf x
      (Host.divf (broadcastInDim Cert.ReferenceModIdeal.S8x2048 ![] Cert.ReferenceModIdeal.Gen.bcast_S_S8x2048 (constant Cert.ReferenceModIdeal.S_ .f32 0x3F800000#32))
        (addf (broadcastInDim Cert.ReferenceModIdeal.S8x2048 ![] Cert.ReferenceModIdeal.Gen.bcast_S_S8x2048 (constant Cert.ReferenceModIdeal.S_ .f32 0x3F800000#32))
          (Host.exp (Host.negf x))))) w)
    (broadcastInDim Cert.ReferenceModIdeal.S8x6144 ![0, 1] Cert.ReferenceModIdeal.Gen.bcast_S1x6144_S8x6144_0_1
      (broadcastInDim Cert.ReferenceModIdeal.S1x6144 ![1] Cert.ReferenceModIdeal.Gen.bcast_S6144_S1x6144_1 b))

/-- Where each window's block lies at each of the six points. -/
theorem idx : ∀ t : Fin cfg0.N, win0_0.index t = ![0, 0] ∧ win0_1.index t = ![0, t.val] ∧ win0_2.index t = ![0, t.val]
    ∧ win0_3.index t = ![0, t.val] :=
  (by decide +kernel : ∀ t : Fin grid0.N, _)

/-- One entry of one stretch is the reference's entry at the place the stretch is written to. -/
theorem point (c : Dev nD) (t : Fin cfg0.N) (y) :
    k0_pay1 (iblk m c 0 t) (iblk m c 1 t) (iblk m c 2 t) y
      = modRef (m ((c : Thread nD τ).loc main_arg0)) (m ((c : Thread nD τ).loc main_arg1)) (m ((c : Thread nD τ).loc main_arg2))
          (((cfg0.win 3).blk t).view.emb y) := by
  pointwise [k0_pay1, modRef]
  simp only [Ideal.logistic]
  blk_point [iblk, V, idx t]

/-- The result array after the run is the reference's. -/
theorem final (c : Dev nD) : (dats m 0 c).arrAt 3 (cfgs 0).N
    = modRef (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.KernelModIdeal.Value

end
-- ==== Proof.RelayBody.lean ====
module

public import proofs.«01_k».proof.Proof.Gen.KernelRelayoutIdeal.Launch
public import proofs.«01_k».proof.Proof.Gen.KernelRelayoutIdeal.Skeleton
public import proofs.«01_k».proof.Proof.Gen.KernelRelayoutIdeal.Frame
public import Idealize.ShloMosaic.Lib.Pipeline.FrameBody
public import Idealize.ShloMosaic.Lib.Ring
public import Idealize.ShloMosaic.Lib.Tactic

/-! What one run of the weight layout's body leaves in its buffers: 512 rows of the main weights, copied from one block
or pieced together from two, and the 256 rows of the tail weights. -/

@[expose] public section

set_option maxRecDepth 16384

noncomputable section

namespace Cert.KernelRelayoutIdeal.Hand

open Cert.KernelRelayoutIdeal Cert.KernelRelayoutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The rectangles the body reads and writes -/

abbrev rWhole : Rect S512x2048 := Rect.unit (s := S512x2048) ![0, 0] S512x2048.size inb_S512x2048_S512x2048_0_0
abbrev rLate : Rect S512x2048 := Rect.unit (s := S512x2048) ![80, 0] S432x2048.size inb_S512x2048_S432x2048_80_0
abbrev rUpper : Rect S512x2048 := Rect.unit (s := S512x2048) ![0, 0] S432x2048.size inb_S512x2048_S432x2048_0_0
abbrev rLower : Rect S512x2048 := Rect.unit (s := S512x2048) ![432, 0] S80x2048.size inb_S512x2048_S80x2048_432_0
abbrev rNext : Rect S128x2048 := Rect.unit (s := S128x2048) ![0, 0] S80x2048.size inb_S128x2048_S80x2048_0_0
abbrev rKey : Rect S80x2048 := Rect.unit (s := S80x2048) ![0, 0] S64x2048.size inb_S80x2048_S64x2048_0_0
abbrev rWgt : Rect S80x2048 := Rect.unit (s := S80x2048) ![64, 0] S16x2048.size inb_S80x2048_S16x2048_64_0
abbrev rT0 : Rect S256x2048 := Rect.unit (s := S256x2048) ![0, 0] S64x2048.size inb_S256x2048_S64x2048_0_0
abbrev rT1 : Rect S256x2048 := Rect.unit (s := S256x2048) ![64, 0] S64x2048.size inb_S256x2048_S64x2048_64_0
abbrev rT2 : Rect S256x2048 := Rect.unit (s := S256x2048) ![128, 0] S16x2048.size inb_S256x2048_S16x2048_128_0
abbrev rT3 : Rect S256x2048 := Rect.unit (s := S256x2048) ![144, 0] S112x2048.size inb_S256x2048_S112x2048_144_0

/-! ## What the body stores -/

/-- Before the rows that go to the tail: the block as it is. -/
def mainHead (x0 : Vec F S512x2048 .f32) : Vec F S512x2048 .bf16 := View.canon [⟨rWhole, k0_pay1 (View.ld x0 rWhole)⟩]

/-- After them: the block from its row 80 on, then the first 80 rows of the next. -/
def mainRest (x0 : Vec F S512x2048 .f32) (x1 : Vec F S128x2048 .f32) : Vec F S512x2048 .bf16 :=
  View.canon [⟨rLower, k0_pay3 (View.ld x1 rNext)⟩, ⟨rUpper, k0_pay2 (View.ld x0 rLate)⟩]

/-- The main block at grid coordinates `i`. -/
def mainBlk (i : grid0.Coords) (x0 : Vec F S512x2048 .f32) (x1 : Vec F S128x2048 .f32) : Vec F S512x2048 .bf16 :=
  if k0_cond1 i = 1#1 then mainHead x0 else mainRest x0 x1

/-- The tail: the key rows twice, the weight rows, zeros. -/
def tailBlk (x2 : Vec F S80x2048 .f32) : Vec F S256x2048 .bf16 :=
  View.canon [⟨rT3, k0_pay6⟩, ⟨rT2, k0_pay5 (View.ld x2 rWgt)⟩, ⟨rT1, k0_pay4 (View.ld x2 rKey)⟩, ⟨rT0, k0_pay4 (View.ld x2 rKey)⟩]

theorem cover_head (p : Vec F S512x2048 .bf16) (y : S512x2048.Idx) :
    ∃ pc ∈ ([⟨rWhole, p⟩] : List (View.Piece (Elt F) S512x2048 .bf16)), y ∈ pc.1.set :=
  View.cover_of_tiledL _ S512x2048.size (by sl_kernel_rfl) y

theorem cover_rest (p1 : Vec F S80x2048 .bf16) (p0 : Vec F S432x2048 .bf16) (y : S512x2048.Idx) :
    ∃ pc ∈ ([⟨rLower, p1⟩, ⟨rUpper, p0⟩] : List (View.Piece (Elt F) S512x2048 .bf16)), y ∈ pc.1.set :=
  View.cover_of_tiledBy _ ![16, 2048] (by sl_kernel_rfl) y

theorem cover_tail (p3 : Vec F S112x2048 .bf16) (p2 : Vec F S16x2048 .bf16) (p1 p0 : Vec F S64x2048 .bf16) (y : S256x2048.Idx) :
    ∃ pc ∈ ([⟨rT3, p3⟩, ⟨rT2, p2⟩, ⟨rT1, p1⟩, ⟨rT0, p0⟩] : List (View.Piece (Elt F) S256x2048 .bf16)), y ∈ pc.1.set :=
  View.cover_of_tiledBy _ ![16, 2048] (by sl_kernel_rfl) y

/-! ## The body's run -/

section Runs

variable (c : Dev nD) (i : grid0.Coords)
  (arg1 : Memref sig .tc .vmem S512x2048 .f32) (harg1 : arg1.IsWhole) (arg2 : Memref sig .tc .vmem S128x2048 .f32) (harg2 : arg2.IsWhole)
  (arg3 : Memref sig .tc .vmem S80x2048 .f32) (harg3 : arg3.IsWhole) (arg4 : Memref sig .tc .vmem S512x2048 .bf16) (harg4 : arg4.IsWhole)
  (arg5 : Memref sig .tc .vmem S256x2048 .bf16) (harg5 : arg5.IsWhole)
  (x0 : Vec F S512x2048 .f32) (x1 : Vec F S128x2048 .f32) (x2 : Vec F S80x2048 .f32)

set_option maxHeartbeats 400000 in
/-- The body on whole buffers, the inputs' at any contents: each input's stays, the outputs' hold the main block and the tail. -/
theorem run_body (hc : k0_cond2 i = 1#1 ↔ ¬k0_cond1 i = 1#1) (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (mainBlk i x0 x1) ∗ owns (c : Thread nD τ) arg5 fullShare (tailBlk x2)) -∗ K ⟨⟩))
      ⊢ wp frame (wpE (defs₀ (F := F)) Variants.none c none) E
        (cc0_w_relayout i arg1 harg1 arg2 harg2 arg3 harg3 arg4 harg4 arg5 harg5) K := by
  simp only [cc0_w_relayout_eq_skeleton]; unfold cc0_w_relayout_skel mainBlk
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  by_cases hc1 : k0_cond1 i = 1#1
  · have hc2 : ¬k0_cond2 i = 1#1 := fun h => hc.mp h hc1
    rw [if_pos hc1]
    sl_exec (disch := first | sl_exact hc1 | sl_exact hc2)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists _; isplitr; swap; · iexact H3
      ipureintro; exact View.read_writes_eq_canon _ _ _ (cover_head _)
    iexists _; isplitr; swap; · iexact H4
    ipureintro; exact View.read_writes_eq_canon _ _ _ (cover_tail _ _ _ _)
  · have hc2 : k0_cond2 i = 1#1 := hc.mpr hc1
    rw [if_neg hc1]
    sl_exec (disch := first | sl_exact hc1 | sl_exact hc2)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists _; isplitr; swap; · iexact H3
      ipureintro; exact View.read_writes_eq_canon _ _ _ (cover_rest _ _)
    iexists _; isplitr; swap; · iexact H4
    ipureintro; exact View.read_writes_eq_canon _ _ _ (cover_tail _ _ _ _)

end Runs

end Cert.KernelRelayoutIdeal.Hand

end
-- ==== Proof.RelayFrame.lean ====
module

public import proofs.«01_k».proof.Proof.RelayBody
public import proofs.«01_k».proof.Proof.Gen.KernelRelayoutIdeal.Points
public import Idealize.ShloMosaic.Lib.Claim

/-! The weight layout's run: what each buffer holds after the body at every grid point, and the run of the whole program.
The second window's last block reaches past the end of the array, so the last 48 rows of its buffer hold anything; the
body reads the first 80 only. -/

@[expose] public section

set_option maxRecDepth 16384

noncomputable section

namespace Cert.KernelRelayoutIdeal.Hand

open Cert.KernelRelayoutIdeal Cert.KernelRelayoutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule -/

/-- At each point exactly one of the two stores of the main block runs. -/
theorem cond12 : ∀ t : Fin cfg0.N, k0_cond2 (grid0.coords t) = 1#1 ↔ ¬k0_cond1 (grid0.coords t) = 1#1 :=
  (by decide +kernel : ∀ t : Fin grid0.N, k0_cond2 (grid0.coords t) = 1#1 ↔ ¬k0_cond1 (grid0.coords t) = 1#1)

/-- The main window is written at every point. -/
theorem live3 : ∀ t : Fin cfg0.N, cfg0.idle 3 (grid0.coords t) = false :=
  (by decide +kernel : ∀ t : Fin grid0.N, cfg0.idle 3 (grid0.coords t) = false)

/-- At least the first 80 rows, and every column, of the second window's block lie in the array. -/
theorem xsize1 : ∀ t : Fin cfg0.N, 80 ≤ (cfg0.win 1).xsize (grid0.coords t) 0 ∧ (cfg0.win 1).xsize (grid0.coords t) 1 = 2048 :=
  (by decide +kernel : ∀ t : Fin grid0.N, 80 ≤ (cfg0.win 1).xsize (grid0.coords t) 0 ∧ (cfg0.win 1).xsize (grid0.coords t) 1 = 2048)

/-! ## What the buffers hold -/

/-- A filler for the rows of the second window's buffer past the end of the array. -/
def dflt1 : (cfg0.win 1).block.Idx → Elt F (cfg0.win 1).elt := fun _ => Classical.choice inferInstance

/-- The second window's block, with the filler past the end of the array. -/
def X1 (c : Dev nD) (t : Fin cfg0.N) : (cfg0.win 1).block.Idx → Elt F (cfg0.win 1).elt :=
  (cfg0.win 1).fill (grid0.coords t) dflt1 (iblk m c 1 t)

theorem moved1 (t : Fin cfg0.N) (j : (cfg0.win 1).block.Idx) (h : (j 0 : ℕ) < 80) : (cfg0.win 1).moved (grid0.coords t) j = true :=
  ((cfg0.win 1).moved_iff _ j).mpr fun a => by
    match a with
    | ⟨0, _⟩ => exact lt_of_lt_of_le h (xsize1 t).1
    | ⟨1, _⟩ => exact lt_of_lt_of_eq (j 1).isLt (xsize1 t).2.symm

/-- The 80 rows the body reads of the second window's buffer are the array's, whatever lies past its end. -/
theorem ld_next (t : Fin cfg0.N) (d d' : (cfg0.win 1).block.Idx → Elt F (cfg0.win 1).elt) (g) :
    View.ld ((cfg0.win 1).fill (grid0.coords t) d g) rNext = View.ld ((cfg0.win 1).fill (grid0.coords t) d' g) rNext := by
  funext y
  have h : (cfg0.win 1).moved (grid0.coords t) (rNext.idx y) = true :=
    moved1 t _ (by rw [show ((rNext.idx y 0 : Fin _) : ℕ) = 0 + 1 * (y 0).val from rfl]; have := (show (y 0 : ℕ) < 80 from (y 0).isLt); omega)
  show (cfg0.win 1).fill (grid0.coords t) d g (rNext.idx y) = (cfg0.win 1).fill (grid0.coords t) d' g (rNext.idx y)
  unfold Pipeline.Window.fill
  rw [dif_pos h, dif_pos h]

/-- The main block does not depend on what lies past the end of the array. -/
theorem mainBlk_fill (t : Fin cfg0.N) (x0 : Vec F S512x2048 .f32) (d d' : (cfg0.win 1).block.Idx → Elt F (cfg0.win 1).elt) (g) :
    mainBlk (grid0.coords t) x0 ((cfg0.win 1).fill (grid0.coords t) d g) = mainBlk (grid0.coords t) x0 ((cfg0.win 1).fill (grid0.coords t) d' g) := by
  exact congrArg (fun z => if k0_cond1 (grid0.coords t) = 1#1 then mainHead x0
    else View.canon [⟨rLower, k0_pay3 z⟩, ⟨rUpper, k0_pay2 (View.ld x0 rLate)⟩]) (ld_next t d d' g)

/-- The proof data: every input at its block, the outputs at what the body computes of them; the three inputs share
    their array. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X1 m c t
    | ⟨2, _⟩ => X0_2 m c t
    | ⟨3, _⟩ => mainBlk (grid0.coords t) (X0_0 m c t) (X1 m c t)
    | ⟨4, _⟩ => tailBlk (X0_2 m c t)
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

theorem after0 (c : Dev nD) (t : Fin cfg0.N) : (dats m 0 c).after 0 t = X0_0 m c t := by dsimp only [dats]
theorem after1 (c : Dev nD) (t : Fin cfg0.N) : (dats m 0 c).after 1 t = X1 m c t := by dsimp only [dats]
theorem after2 (c : Dev nD) (t : Fin cfg0.N) : (dats m 0 c).after 2 t = X0_2 m c t := by dsimp only [dats]
theorem after3 (c : Dev nD) (t : Fin cfg0.N) : (dats m 0 c).after 3 t = mainBlk (grid0.coords t) (X0_0 m c t) (X1 m c t) := by dsimp only [dats]
theorem after4 (c : Dev nD) (t : Fin cfg0.N) : (dats m 0 c).after 4 t = tailBlk (X0_2 m c t) := by dsimp only [dats]

theorem before0 (c : Dev nD) (t : Fin cfg0.N) (d) : (dats m 0 c).before 0 t d = X0_0 m c t :=
  before0_0_of m (dats m 0 c) (A_eq m c 0) (after0 m c) t d
theorem before2 (c : Dev nD) (t : Fin cfg0.N) (d) : (dats m 0 c).before 2 t d = X0_2 m c t :=
  before0_2_of m (dats m 0 c) (A_eq m c 2) (after2 m c) t d

/-- The second window's buffer holds its block, with anything past the end of the array. -/
theorem before1 (c : Dev nD) (t : Fin cfg0.N) (d) : (dats m 0 c).before 1 t d = (cfg0.win 1).fill (grid0.coords t) d (iblk m c 1 t) :=
  ((dats m 0 c).before_in_eq_fetched 1 rfl (fun _ => rfl)
      (fun t t' h => funext fun a => congrArg (fun n => Pipeline.Clip.of n ((cfg0.win 1).size a) (S9296x2048.size a)) (congrFun h a))
      (fun t => by rw [after1]; unfold X1; rw [Pipeline.Window.cut_fill]; unfold Dat.blockOf iblk; rw [A_eq]; try rfl) t d).trans
    (by unfold Dat.fetched; unfold Dat.blockOf iblk; rw [A_eq]; try rfl)

/-- What the body leaves in the second window's buffer is its block as far as the array reaches. -/
theorem leaves1 (c : Dev nD) (t : Fin cfg0.N) (d) :
    owns (c : Thread nD τ) (st0_1 t) fullShare ((cfg0.win 1).fill (grid0.coords t) d (iblk m c 1 t)) ⊢ ((dats m 0 c).leaves 1 t : sProp 𝕄) := by
  unfold Dat.leaves
  rw [after1]
  iintro H
  iexists d
  rw [show (cfg0.win 1).cut (cfg0.grid.coords t) (X1 m c t) = iblk m c 1 t from (cfg0.win 1).cut_fill _ _ _]
  iexact H

/-- A window that is written, or read whole, at a point is left at the proof data's contents. -/
theorem leaves_live (c : Dev nD) (w : Fin cfg0.W) (t : Fin cfg0.N) (h : cfg0.idle w (grid0.coords t) = false) :
    owns (c : Thread nD τ) ((cfg0.win w).stage (cfg0.slots t w)) fullShare ((dats m 0 c).after w t) ⊢ ((dats m 0 c).leaves w t : sProp 𝕄) := by
  refine Entails.trans (Entails.of_eq ?_) ((dats m 0 c).leaves_intro w t)
  unfold Dat.leavesExact; rw [show cfg0.idle w (cfg0.grid.coords t) = false from h]

/-! ## The body obligation -/

/-- What the body is called with at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What it returns. -/
def bodyPost (c : Dev nD) (t : Fin cfg0.N) : sProp 𝕄 :=
  iprop((dats m 0 c).Φ t.succ ∗ (dats m 0 c).owesAt () t.succ
    ∗ (dats m 0 c).leaves 0 t
    ∗ (dats m 0 c).leaves 1 t
    ∗ (dats m 0 c).leaves 2 t
    ∗ (dats m 0 c).leaves 3 t
    ∗ (dats m 0 c).leaves 4 t)

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl]
  have h0 := leaves_live m c 0 t rfl
  have h2 := leaves_live m c 2 t rfl
  have h3 := leaves_live m c 3 t (live3 t)
  have h4 := leaves_live m c 4 t rfl
  rw [after0] at h0
  rw [after2] at h2
  rw [after3] at h3
  rw [after4] at h4
  iintro ⟨HP, Ho, ⟨%d0, H0⟩, ⟨%d1, H1⟩, ⟨%d2, H2⟩, ⟨%d3, H3⟩, ⟨%d4, H4⟩⟩
  iapply (run_body c (grid0.coords t) _ _ _ _ _ _ _ _ _ _ (X0_0 m c t) ((cfg0.win 1).fill (grid0.coords t) d1 (iblk m c 1 t)) (X0_2 m c t) (cond12 t) Set.univ _)
  isplitl [H0]; · iexact H0
  isplitl [H1]; · iexact H1
  isplitl [H2]; · iexact H2
  isplitl [H3]; · iexists _; iexact H3
  isplitl [H4]; · iexists _; iexact H4
  rw [mainBlk_fill t (X0_0 m c t) d1 dflt1 (iblk m c 1 t)]
  iintro ⟨H0, H1, H2, H3, H4⟩
  isplitl [HP]; · iexact HP
  isplitl [Ho]; · iexact Ho
  isplitl [H0]; · iapply h0; iexact H0
  isplitl [H1]; · iapply (leaves1 m c t d1); iexact H1
  isplitl [H2]; · iapply h2; iexact H2
  isplitl [H3]; · iapply h3; iexact H3
  iapply h4; iexact H4

/-- The body table's row at a point is the body. -/
theorem defs_row (t : Fin cfg0.N) : defs₀ (F := F) .tc cfg0.body (cfg0.bodyArgs t (cfg0.slots t)) = bodyAt0 t := by
  unfold defs₀; rw [Defs.onTc_tc]

/-- The body obligation, at every point. -/
theorem body_obligation (c : Dev nD) : BodyObligationLoose (dats (F := F) m 0 c) (defs₀ (F := F)) Variants.none () Set.univ := fun t => by
  rw [bigSep_W0, bigSep_W0, defs_row]
  exact triple_restated (sound_body m c t) rfl .rfl fun _ => .rfl

/-! ## The run -/

set_option backward.isDefEq.respectTransparency.types false in
set_option maxHeartbeats 800000 in
/-- The whole program runs; every array ends at what the proof data say, every other buffer as found, every counter at
    zero. -/
theorem run_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := body_obligation m) (hq := fun _ _ _ => rfl)
    (howed := fun _ _ => rfl) (V := V m) (hmain := hmain m Variants.none) (hA := A_eq m) (hΦ := fun _ _ => rfl)

/-- The run without the counters. -/
theorem run_main : θ_run defs (onTc (τ := τ) (main (F := F))) (s₀ m ρ) (Pipeline.FramePost cfgs (dats m) 0 (V m)) :=
  (θ_run defs _ _).mono (fun _ h => h.1) (run_quiescent m ρ)

/-- The frame: the argument ends unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (frame_of m ρ (dats m) (A_eq m) (run_main m ρ)) ((θ_run defs _ _).mono (fun _ h => h.2) (run_quiescent m ρ))

end Cert.KernelRelayoutIdeal.Hand

end
-- ==== Proof.RelayValue.lean ====
module

public import proofs.«01_k».proof.Proof.RelayFrame
public import proofs.«01_k».proof.Proof.Gen.ReferenceRelayoutIdeal.Run
public import Idealize.ShloMosaic.Lib.Pipeline.ValueKit
public import Idealize.ShloMosaic.Lib.Pointwise

/-!
# The weight layout

The transposed weights' rows 0 to 5119 and 5200 to 9295 are the main weights; rows 5120 to 5199 go to the tail: 64 key
rows, written twice, then 16 weight rows and 112 rows of zeros. At grid points 0 to 9 the kernel copies 512 rows; from
point 10 on its 512 rows begin 80 rows further down, so the last 80 come from the next block.
-/

@[expose] public section

set_option maxRecDepth 16384

noncomputable section

open Idealize.ShloMosaic Idealize.ShloMosaic.TcCoe Idealize.SL.Sem
open Idealize.ShloMosaic.Pipeline (Dat)

namespace Cert.KernelRelayoutIdeal.Hand

open Cert.KernelRelayoutIdeal Cert.KernelRelayoutIdeal.Gen

variable (m : (ℓ : Loc nD τ sig) → Buf (Elt Ideal) ℓ)

/-- The reference's transposed weights. -/
abbrev wT (w : FVec Ideal S2048x9296 .f32) : FVec Ideal Cert.ReferenceRelayoutIdeal.S9296x2048 .f32 :=
  transpose Cert.ReferenceRelayoutIdeal.S9296x2048 [1, 0] w Cert.ReferenceRelayoutIdeal.Gen.transposes_S2048x9296_S9296x2048_1_0

/-- The reference's main weights. -/
abbrev mainRef (w : FVec Ideal S2048x9296 .f32) : FVec Ideal S9216x2048 .bf16 :=
  truncf .bf16 (concatenate Cert.ReferenceRelayoutIdeal.S9216x2048 0
    [⟨Cert.ReferenceRelayoutIdeal.S5120x2048, extractStridedSlice Cert.ReferenceRelayoutIdeal.S5120x2048 ![0, 0] (wT w) Cert.ReferenceRelayoutIdeal.Gen.slices_S9296x2048_S5120x2048_0_0⟩,
     ⟨Cert.ReferenceRelayoutIdeal.S4096x2048, extractStridedSlice Cert.ReferenceRelayoutIdeal.S4096x2048 ![5200, 0] (wT w) Cert.ReferenceRelayoutIdeal.Gen.slices_S9296x2048_S4096x2048_5200_0⟩]
    Cert.ReferenceRelayoutIdeal.Gen.concatenates_S5120x2048_S4096x2048_S9216x2048_d0) Cert.ReferenceRelayoutIdeal.Gen.bitsLt_bf16_f32

/-- The reference's tail weights. -/
abbrev tailRef (w : FVec Ideal S2048x9296 .f32) : FVec Ideal S256x2048 .bf16 :=
  truncf .bf16 (concatenate Cert.ReferenceRelayoutIdeal.S256x2048 0
    [⟨Cert.ReferenceRelayoutIdeal.S64x2048, extractStridedSlice Cert.ReferenceRelayoutIdeal.S64x2048 ![5120, 0] (wT w) Cert.ReferenceRelayoutIdeal.Gen.slices_S9296x2048_S64x2048_5120_0⟩,
     ⟨Cert.ReferenceRelayoutIdeal.S64x2048, extractStridedSlice Cert.ReferenceRelayoutIdeal.S64x2048 ![5120, 0] (wT w) Cert.ReferenceRelayoutIdeal.Gen.slices_S9296x2048_S64x2048_5120_0⟩,
     ⟨Cert.ReferenceRelayoutIdeal.S16x2048, extractStridedSlice Cert.ReferenceRelayoutIdeal.S16x2048 ![5184, 0] (wT w) Cert.ReferenceRelayoutIdeal.Gen.slices_S9296x2048_S16x2048_5184_0⟩,
     ⟨Cert.ReferenceRelayoutIdeal.S112x2048, broadcastInDim Cert.ReferenceRelayoutIdeal.S112x2048 ![] Cert.ReferenceRelayoutIdeal.Gen.bcast_S_S112x2048 (constant Cert.ReferenceRelayoutIdeal.S_ .f32 0x00000000#32)⟩]
    Cert.ReferenceRelayoutIdeal.Gen.concatenates_S64x2048_S64x2048_S16x2048_S112x2048_S256x2048_d0) Cert.ReferenceRelayoutIdeal.Gen.bitsLt_bf16_f32

/-- Where each window's block lies at each of the 18 points. -/
theorem idx : ∀ t : Fin cfg0.N, win0_0.index t = ![t.val, 0] ∧ win0_1.index t = ![(max t.val 9 + 1) * 4, 0]
    ∧ win0_2.index t = ![64, 0] ∧ win0_3.index t = ![t.val, 0] ∧ win0_4.index t = ![0, 0] :=
  (by decide +kernel : ∀ t : Fin grid0.N, _)

/-- The plain copy is made at the first ten points. -/
theorem cond1_iff : ∀ t : Fin cfg0.N, k0_cond1 (grid0.coords t) = 1#1 ↔ t.val < 10 :=
  (by decide +kernel : ∀ t : Fin grid0.N, k0_cond1 (grid0.coords t) = 1#1 ↔ t.val < 10)

/-- The weights as the kernel is given them: transposed. -/
theorem entry_w (c : Dev nD) (i : S9296x2048.Idx) (j : S2048x9296.Idx) (h0 : (j 0 : ℕ) = i 1) (h1 : (j 1 : ℕ) = i 0) :
    V m c main_v0 i = m ((c : Thread nD τ).loc main_arg0) j := by
  entry_read
  pointwise
  blk_ext

/-! One entry of each window's buffer at point `t`, as an entry of the argument. -/

theorem blk0 (c : Dev nD) (t : Fin cfg0.N) (i : S512x2048.Idx) (j : S2048x9296.Idx) (h0 : (j 0 : ℕ) = i 1)
    (h1 : (j 1 : ℕ) = t.val * 512 + i 0) : X0_0 m c t i = m ((c : Thread nD τ).loc main_arg0) j := by
  unfold X0_0 Pipeline.Window.fill
  rw [dif_pos (moved0_0 t i)]
  refine (entry_w m c (((cfg0.win 0).blk t).view.emb _) j ?_ ?_) <;> blk_simp [idx t] <;> omega

theorem blk1 (c : Dev nD) (t : Fin cfg0.N) (i : S128x2048.Idx) (hi : (i 0 : ℕ) < 80) (j : S2048x9296.Idx) (h0 : (j 0 : ℕ) = i 1)
    (h1 : (j 1 : ℕ) = (max t.val 9 + 1) * 512 + i 0) : X1 m c t i = m ((c : Thread nD τ).loc main_arg0) j := by
  unfold X1 Pipeline.Window.fill
  rw [dif_pos (moved1 t i hi)]
  refine (entry_w m c (((cfg0.win 1).blk t).view.emb _) j ?_ ?_)
  · blk_simp [idx t]; omega
  · blk_simp [idx t]; dsimp only; omega

theorem blk2 (c : Dev nD) (t : Fin cfg0.N) (i : S80x2048.Idx) (j : S2048x9296.Idx) (h0 : (j 0 : ℕ) = i 1)
    (h1 : (j 1 : ℕ) = 5120 + i 0) : X0_2 m c t i = m ((c : Thread nD τ).loc main_arg0) j := by
  unfold X0_2 Pipeline.Window.fill
  rw [dif_pos (moved0_2 t i)]
  refine (entry_w m c (((cfg0.win 2).blk t).view.emb _) j ?_ ?_) <;> blk_simp [idx t] <;> omega

/-! ## The reference's rows -/

/-- A row of the main weights above the tail's rows. -/
theorem main_lo (w : FVec Ideal S2048x9296 .f32) (i : S9216x2048.Idx) (j : S2048x9296.Idx) (h : (i 0 : ℕ) < 5120)
    (h0 : (j 0 : ℕ) = i 1) (h1 : (j 1 : ℕ) = i 0) : w j = mainRef w i := by
  pointwise [mainRef, wT]
  split_ifs
  all_goals blk_ext

/-- A row below them: 80 rows further down. -/
theorem main_hi (w : FVec Ideal S2048x9296 .f32) (i : S9216x2048.Idx) (j : S2048x9296.Idx) (h : 5120 ≤ (i 0 : ℕ))
    (h0 : (j 0 : ℕ) = i 1) (h1 : (j 1 : ℕ) = i 0 + 80) : w j = mainRef w i := by
  pointwise [mainRef, wT]
  split_ifs
  all_goals blk_ext

/-- The tail's key rows, in either copy. -/
theorem tail_key (w : FVec Ideal S2048x9296 .f32) (i : S256x2048.Idx) (j : S2048x9296.Idx) (h : (i 0 : ℕ) < 128)
    (h0 : (j 0 : ℕ) = i 1) (h1 : (j 1 : ℕ) = 5120 + i 0 % 64) : w j = tailRef w i := by
  pointwise [tailRef, wT]
  split_ifs
  all_goals first | (exfalso; omega) | blk_ext

/-- The tail's weight rows. -/
theorem tail_wgt (w : FVec Ideal S2048x9296 .f32) (i : S256x2048.Idx) (j : S2048x9296.Idx) (h : 128 ≤ (i 0 : ℕ))
    (h' : (i 0 : ℕ) < 144) (h0 : (j 0 : ℕ) = i 1) (h1 : (j 1 : ℕ) = 5056 + i 0) : w j = tailRef w i := by
  pointwise [tailRef, wT]
  split_ifs
  all_goals first | (exfalso; omega) | blk_ext

/-- The tail's last rows are zero. -/
theorem tail_zero (w : FVec Ideal S2048x9296 .f32) (i : S256x2048.Idx) (h : 144 ≤ (i 0 : ℕ)) :
    (0 : EReal) = tailRef w i := by
  pointwise [tailRef, wT]
  split_ifs
  all_goals first | omega | rfl

/-! ## The two arrays -/

set_option maxHeartbeats 1000000 in
/-- One entry of the main block a point stores is the reference's entry at the place the block is written to. -/
theorem point3 (c : Dev nD) (t : Fin cfg0.N) (y : S512x2048.Idx) :
    mainBlk (grid0.coords t) (X0_0 m c t) (X1 m c t) y
      = mainRef (m ((c : Thread nD τ).loc main_arg0)) (((cfg0.win 3).blk t).view.emb y) := by
  have ht : t.val < 18 := t.isLt
  have hy : (y 0 : ℕ) < 512 := (y 0).isLt
  have e0 : ((((cfg0.win 3).blk t).view.emb y 0 : Fin _) : ℕ) = t.val * 512 + y 0 := by blk_simp [idx t]
  have e1 : ((((cfg0.win 3).blk t).view.emb y 1 : Fin _) : ℕ) = y 1 := by blk_simp [idx t]
  unfold mainBlk
  split_ifs with hc
  · have h10 := (cond1_iff t).mp hc
    refine Eq.trans ?_ (main_lo _ _ (ix2 (y 1) ⟨t.val * 512 + y 0, by omega⟩) (by omega) e1.symm e0.symm)
    unfold mainHead
    canon_tiles x h
    pointwise [k0_pay1]
    refine blk0 m c t _ _ ?_ ?_
    all_goals (blk_simp <;> (try dsimp only) <;> omega)
  · have h10 : 10 ≤ t.val := not_lt.mp fun h => hc ((cond1_iff t).mpr h)
    refine Eq.trans ?_ (main_hi _ _ (ix2 (y 1) ⟨t.val * 512 + y 0 + 80, by omega⟩) (by omega) e1.symm (congrArg (· + 80) e0.symm))
    unfold mainRest
    canon_tiles x h using cover_rest _ _ y
    · pointwise [k0_pay3]
      refine blk1 m c t _ ?_ _ ?_ ?_
      all_goals (blk_simp <;> (try dsimp only) <;> omega)
    · pointwise [k0_pay2]
      refine blk0 m c t _ _ ?_ ?_
      all_goals (blk_simp <;> (try dsimp only) <;> omega)

set_option maxHeartbeats 1000000 in
/-- One entry of the tail block is the reference's. -/
theorem point4 (c : Dev nD) (t : Fin cfg0.N) (y : S256x2048.Idx) :
    tailBlk (X0_2 m c t) y = tailRef (m ((c : Thread nD τ).loc main_arg0)) (((cfg0.win 4).blk t).view.emb y) := by
  have hy : (y 0 : ℕ) < 256 := (y 0).isLt
  have e0 : ((((cfg0.win 4).blk t).view.emb y 0 : Fin _) : ℕ) = y 0 := by blk_simp [idx t]
  have e1 : ((((cfg0.win 4).blk t).view.emb y 1 : Fin _) : ℕ) = y 1 := by blk_simp [idx t]
  unfold tailBlk
  canon_tiles x h using cover_tail _ _ _ _ y
  · refine Eq.trans ?_ (tail_zero _ _ (by omega))
    pointwise [k0_pay6]
  · refine Eq.trans ?_ (tail_wgt _ _ (ix2 (y 1) ⟨5056 + y 0, by omega⟩) (by omega) (by omega) e1.symm (congrArg (5056 + ·) e0.symm))
    pointwise [k0_pay5]
    refine blk2 m c t _ _ ?_ ?_
    all_goals (blk_simp <;> (try dsimp only) <;> omega)
  all_goals
    refine Eq.trans ?_ (tail_key _ _ (ix2 (y 1) ⟨5120 + y 0 % 64, by omega⟩) (by omega) e1.symm (congrArg (fun n => 5120 + n % 64) e0.symm))
    pointwise [k0_pay4]
    refine blk2 m c t _ _ ?_ ?_
    all_goals (blk_simp <;> (try dsimp only) <;> omega)

/-- The main weights after the run are the reference's. -/
theorem final3 (c : Dev nD) : (dats m 0 c).arrAt 3 (cfgs 0).N = mainRef (m ((c : Thread nD τ).loc main_arg0)) := by
  refine (dats m 0 c).arrAt_eq_of_covers 3 _ (by decide +kernel) fun t _ y => ?_
  blk_simp
  rw [after3]
  exact point3 m c t y

/-- The tail weights after the run are the reference's. -/
theorem final4 (c : Dev nD) : (dats m 0 c).arrAt 4 (cfgs 0).N = tailRef (m ((c : Thread nD τ).loc main_arg0)) := by
  refine (dats m 0 c).arrAt_eq_of_covers 4 _ (by decide +kernel) fun t _ y => ?_
  blk_simp
  rw [after4]
  exact point4 m c t y

end Cert.KernelRelayoutIdeal.Hand

end
-- ==== Proof.lean ====
module

public import proofs.«01_k».proof.Defs
public import proofs.«01_k».proof.Proof.Gen.KernelIn
public import proofs.«01_k».proof.Proof.Gen.KernelIn.Skeleton
public import proofs.«01_k».proof.Proof.Gen.KernelIn.Launch
public import proofs.«01_k».proof.Proof.Gen.KernelIn.Points
public import proofs.«01_k».proof.Proof.Gen.KernelIn.Frame
public import proofs.«01_k».proof.Proof.Gen.KernelInIdeal
public import proofs.«01_k».proof.Proof.Gen.KernelInIdeal.Skeleton
public import proofs.«01_k».proof.Proof.Gen.KernelInIdeal.Launch
public import proofs.«01_k».proof.Proof.Gen.KernelInIdeal.Points
public import proofs.«01_k».proof.Proof.Gen.KernelInIdeal.Frame
public import proofs.«01_k».proof.Proof.Gen.ReferenceInIdeal
public import proofs.«01_k».proof.Proof.Gen.KernelOut
public import proofs.«01_k».proof.Proof.Gen.KernelOut.Skeleton
public import proofs.«01_k».proof.Proof.Gen.KernelOut.Launch
public import proofs.«01_k».proof.Proof.Gen.KernelOut.Points
public import proofs.«01_k».proof.Proof.Gen.KernelOut.Frame
public import proofs.«01_k».proof.Proof.Gen.KernelOutIdeal
public import proofs.«01_k».proof.Proof.Gen.KernelOutIdeal.Skeleton
public import proofs.«01_k».proof.Proof.Gen.KernelOutIdeal.Launch
public import proofs.«01_k».proof.Proof.Gen.KernelOutIdeal.Points
public import proofs.«01_k».proof.Proof.Gen.KernelOutIdeal.Frame
public import proofs.«01_k».proof.Proof.Gen.ReferenceOutIdeal
public import proofs.«01_k».proof.Proof.Gen.KernelMod
public import proofs.«01_k».proof.Proof.Gen.KernelMod.Skeleton
public import proofs.«01_k».proof.Proof.Gen.KernelMod.Launch
public import proofs.«01_k».proof.Proof.Gen.KernelMod.Points
public import proofs.«01_k».proof.Proof.Gen.KernelMod.Frame
public import proofs.«01_k».proof.Proof.Gen.KernelModIdeal
public import proofs.«01_k».proof.Proof.Gen.KernelModIdeal.Skeleton
public import proofs.«01_k».proof.Proof.Gen.KernelModIdeal.Launch
public import proofs.«01_k».proof.Proof.Gen.KernelModIdeal.Points
public import proofs.«01_k».proof.Proof.Gen.KernelModIdeal.Frame
public import proofs.«01_k».proof.Proof.Gen.ReferenceModIdeal
public import proofs.«01_k».proof.Proof.Gen.KernelRelayout
public import proofs.«01_k».proof.Proof.Gen.KernelRelayout.Skeleton
public import proofs.«01_k».proof.Proof.Gen.KernelRelayout.Launch
public import proofs.«01_k».proof.Proof.Gen.KernelRelayout.Points
public import proofs.«01_k».proof.Proof.Gen.KernelRelayout.Frame
public import proofs.«01_k».proof.Proof.Gen.KernelRelayoutIdeal
public import proofs.«01_k».proof.Proof.Gen.KernelRelayoutIdeal.Skeleton
public import proofs.«01_k».proof.Proof.Gen.KernelRelayoutIdeal.Launch
public import proofs.«01_k».proof.Proof.Gen.KernelRelayoutIdeal.Points
public import proofs.«01_k».proof.Proof.Gen.KernelRelayoutIdeal.Frame
public import proofs.«01_k».proof.Proof.Gen.ReferenceRelayoutIdeal
public import proofs.«01_k».proof.Proof.Gen.ReferenceRelayoutIdeal.Run
public import proofs.«01_k».proof.Proof.Gen.ReferenceRelayoutIdeal.Read
public import proofs.«01_k».proof.Proof.Gen.KernelOutIdeal.Value
public import proofs.«01_k».proof.Proof.Gen.KernelModIdeal.Value
public import proofs.«01_k».proof.Proof.Gen.ReferenceInIdeal.Run
public import proofs.«01_k».proof.Proof.Gen.ReferenceInIdeal.Read
public import proofs.«01_k».proof.Proof.Gen.ReferenceOutIdeal.Run
public import proofs.«01_k».proof.Proof.Gen.ReferenceOutIdeal.Read
public import proofs.«01_k».proof.Proof.Gen.ReferenceModIdeal.Run
public import proofs.«01_k».proof.Proof.Gen.ReferenceModIdeal.Read
public import proofs.«01_k».proof.Proof.BitsFrame
public import proofs.«01_k».proof.Proof.InStages
public import proofs.«01_k».proof.Proof.InValue
public import proofs.«01_k».proof.Proof.OutValue
public import proofs.«01_k».proof.Proof.ModValue
public import proofs.«01_k».proof.Proof.RelayBitsFrame
public import proofs.«01_k».proof.Proof.RelayValue
public import Idealize.ShloMosaic.Adequacy
public import Idealize.ShloMosaic.Init

@[expose] public section

noncomputable section

namespace Cert.Proof

open Idealize.ShloMosaic Idealize.SL.Sem Cert.KernelOut

/-- The input projection's reference ends, its arguments unchanged and every counter at zero. -/
theorem frame_in_ref : Cert.quiescent_ReferenceInIdeal := fun m ρ _ =>
  (θ_run Cert.ReferenceInIdeal.defs _ _).mono (fun r h => ⟨fun c => (h c).2.2.2, sem_eq_zero_of_no_sems (by decide) r.2⟩)
    (Cert.ReferenceInIdeal.Value.run (F := Ideal) m ρ)

/-- The output projection's reference ends, its arguments unchanged and every counter at zero. -/
theorem frame_out_ref : Cert.quiescent_ReferenceOutIdeal := fun m ρ _ =>
  (θ_run Cert.ReferenceOutIdeal.defs _ _).mono (fun r h => ⟨fun c => (h c).2, sem_eq_zero_of_no_sems (by decide) r.2⟩)
    (Cert.ReferenceOutIdeal.Value.run (F := Ideal) m ρ)

/-- The modulation's reference ends, its arguments unchanged and every counter at zero. -/
theorem frame_mod_ref : Cert.quiescent_ReferenceModIdeal := fun m ρ _ =>
  (θ_run Cert.ReferenceModIdeal.defs _ _).mono (fun r h => ⟨fun c => (h c).2, sem_eq_zero_of_no_sems (by decide) r.2⟩)
    (Cert.ReferenceModIdeal.Value.run (F := Ideal) m ρ)

/-- The weight layout's reference ends, its argument unchanged and every counter at zero. -/
theorem frame_relayout_ref : Cert.quiescent_ReferenceRelayoutIdeal := fun m ρ _ =>
  (θ_run Cert.ReferenceRelayoutIdeal.defs _ _).mono (fun r h => ⟨fun c => (h c).2.2, sem_eq_zero_of_no_sems (by decide) r.2⟩)
    (Cert.ReferenceRelayoutIdeal.Value.run (F := Ideal) m ρ)

set_option maxHeartbeats 2000000 in
/-- Over the extended reals the input projection equals its reference, in all three results. -/
theorem algebraic_in : Cert.algebraic_KernelInIdeal_ReferenceInIdeal := by
  pair_intro
  · run_from Cert.KernelInIdeal.Hand.run_main m g
  · run_from Cert.ReferenceInIdeal.Hand.run_stages m' g'
    · exact (Cert.KernelInIdeal.Hand.final7 m c).symm
    · exact (Cert.KernelInIdeal.Hand.final8 m c).symm
    · exact (Cert.KernelInIdeal.Hand.final9 m c).symm

/-- Over the extended reals the output projection equals its reference. -/
theorem algebraic_out : Cert.algebraic_KernelOutIdeal_ReferenceOutIdeal := by
  pair_intro
  · run_from Cert.KernelOutIdeal.Gen.run_main m g
  · run_from Cert.ReferenceOutIdeal.Value.run (F := Ideal) m' g'
    exact (Cert.KernelOutIdeal.Value.final m c).symm

/-- Over the extended reals the modulation equals its reference. -/
theorem algebraic_mod : Cert.algebraic_KernelModIdeal_ReferenceModIdeal := by
  pair_intro
  · run_from Cert.KernelModIdeal.Gen.run_main m g
  · run_from Cert.ReferenceModIdeal.Value.run (F := Ideal) m' g'
    exact (Cert.KernelModIdeal.Value.final m c).symm

/-- Over the extended reals the weight layout equals its reference, in both results. -/
theorem algebraic_relayout : Cert.algebraic_KernelRelayoutIdeal_ReferenceRelayoutIdeal := by
  pair_intro
  · run_from Cert.KernelRelayoutIdeal.Hand.run_main m g
  · run_from Cert.ReferenceRelayoutIdeal.Value.run (F := Ideal) m' g'
    · rw [hagree c]; exact (Cert.KernelRelayoutIdeal.Hand.final3 m c).symm
    · rw [hagree c]; exact (Cert.KernelRelayoutIdeal.Hand.final4 m c).symm

/-- Everything the certificate claims. -/
theorem claim : Cert.Claim := ⟨Cert.KernelIn.Gen.facts, Cert.KernelInIdeal.Gen.facts, Cert.ReferenceInIdeal.Gen.facts,
  Cert.KernelOut.Gen.facts, Cert.KernelOutIdeal.Gen.facts, Cert.ReferenceOutIdeal.Gen.facts,
  Cert.KernelMod.Gen.facts, Cert.KernelModIdeal.Gen.facts, Cert.ReferenceModIdeal.Gen.facts,
  Cert.KernelRelayout.Gen.facts, Cert.KernelRelayoutIdeal.Gen.facts, Cert.ReferenceRelayoutIdeal.Gen.facts,
  fun m ρ _ => Cert.KernelIn.Hand.frame m ρ, fun m ρ _ => Cert.KernelInIdeal.Hand.frame m ρ, frame_in_ref,
  fun m ρ _ => Cert.KernelOut.Gen.frame m ρ, fun m ρ _ => Cert.KernelOutIdeal.Gen.frame m ρ, frame_out_ref,
  fun m ρ _ => Cert.KernelMod.Gen.frame m ρ, fun m ρ _ => Cert.KernelModIdeal.Gen.frame m ρ, frame_mod_ref,
  fun m ρ _ => Cert.KernelRelayout.Hand.frame m ρ, fun m ρ _ => Cert.KernelRelayoutIdeal.Hand.frame m ρ, frame_relayout_ref,
  trivial, algebraic_in, trivial, algebraic_out, trivial, algebraic_mod, trivial, algebraic_relayout⟩

end Cert.Proof

end
